-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_inputs5 [hPre_finite_inputs5 : Cert.Pre_finite_inputs5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_inputs5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_inputs5 [hPre_finite_inputs5 : Cert.Pre_finite_inputs5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_inputs5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite_inputs5 [hKernel5Ideal : Cert.Kernel5Ideal.Facts] [hPre_finite_inputs5 : Cert.Pre_finite_inputs5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_inputs5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite_inputs5 [hReference5Ideal : Cert.Reference5Ideal.Facts] [hPre_finite_inputs5 : Cert.Pre_finite_inputs5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_inputs5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def preserves_Kernel_KernelIdeal : Prop :=
  IdealRules.named_const.Statement Cert.KernelIdeal.κ "masked_dist" .f32 0x7549F2CA#32 ⊤
  ∧ IdealRules.named_const.Statement Cert.KernelIdeal.κ "log2e" .f32 0x3FB8AA3B#32 (((Real.log 2)⁻¹ : ℝ) : EReal)
  ∧ IdealRules.named_const.Statement Cert.KernelIdeal.κ "scale_log2e" .f32 0x3E0293EE#32 (((Real.log 2)⁻¹ * (Real.sqrt 128)⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  IdealRules.named_const.Statement Cert.Kernel5Ideal.κ "scale" .f32 0x3DB504F3#32 (((Real.sqrt 128)⁻¹ : ℝ) : EReal)

def algebraic_Kernel5Ideal_Reference5Ideal_pre_finite_inputs5 [hKernel5Ideal : Cert.Kernel5Ideal.Facts] [hReference5Ideal : Cert.Reference5Ideal.Facts] [hPre_finite_inputs5 : Cert.Pre_finite_inputs5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_inputs5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)) (v2 : (c : Dev Cert.Kernel5Ideal.nD) → Buf (Elt Ideal) ((c.tc : Thread Cert.Kernel5Ideal.nD Cert.Kernel5Ideal.τ).loc Cert.Kernel5Ideal.main_v9_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_v9_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v55) = v0 c
          ∧ r.2.mem ((c.tc : Thread Cert.Reference5Ideal.nD Cert.Reference5Ideal.τ).loc Cert.Reference5Ideal.main_v57) = v1 c
          ∧ r.2.mem ((c.tc : Thread Cert.Reference5Ideal.nD Cert.Reference5Ideal.τ).loc Cert.Reference5Ideal.main_v58) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v29) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)) →
    ∃ (v0 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v10) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_inputs : Cert.Pre_finite_inputs.Facts) (hPre_finite_inputs5 : Cert.Pre_finite_inputs5.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_inputs5 (hKernel5Ideal := hKernel5Ideal) (hPre_finite_inputs5 := hPre_finite_inputs5)
    ∧ quiescent_Reference5Ideal (hReference5Ideal := hReference5Ideal)
    ∧ quiescent_Reference5Ideal_pre_finite_inputs5 (hReference5Ideal := hReference5Ideal) (hPre_finite_inputs5 := hPre_finite_inputs5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_inputs5 (hKernel5Ideal := hKernel5Ideal) (hReference5Ideal := hReference5Ideal) (hPre_finite_inputs5 := hPre_finite_inputs5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite_inputs.lean ====
abbrev S16384x17408 : Shape := ⟨2, ![16384, 17408]⟩
abbrev S16 : Shape := ⟨1, ![16]⟩
abbrev S16384x2560 : Shape := ⟨2, ![16384, 2560]⟩
abbrev S_ : Shape := ⟨0, ![]⟩

class Facts : Prop where
  slices_S16384x17408_S16384x2560_0_6144 : S16384x17408.Slices ![0, 6144] S16384x2560
  bitsLt_bf16_f32 : FTy.bits .bf16 < FTy.bits .f32
  bcast_S_S16384x2560 : S_.BroadcastsInDim S16384x2560 (![] : Fin 0 → Fin S16384x2560.rank)
  reducesTo_S16384x2560_S_d0_1 : S16384x2560.ReducesTo [0, 1] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S16384x17408 .bf16) (main_arg1 : FVec F S16 .f32) : IVec S_ 1 :=
  let main_v0 : FVec F S16384x2560 .bf16 := (extractStridedSlice S16384x2560 ![0, 6144] · slices_S16384x17408_S16384x2560_0_6144) main_arg0
  let main_v1 : FVec F S16384x2560 .f32 := (extf .f32 · bitsLt_bf16_f32) main_v0
  let main_v2 : FVec F S16384x2560 .f32 := Host.absf main_v1
  let main_cst : FVec F S_ .f32 := constant S_ .f32 0x7F800000#32
  let main_v3 : FVec F S16384x2560 .f32 := broadcastInDim S16384x2560 ![] bcast_S_S16384x2560 main_cst
  let main_v4 : IVec S16384x2560 1 := cmpf .olt main_v2 main_v3
  let main_c : IVec S_ 1 := constantI S_ 1 1#1
  let main_v5 : IVec S_ 1 := (fun x v => Host.reduce IntOp.andi x v reducesTo_S16384x2560_S_d0_1 h_S_) main_v4 main_c
  let main_v6 : FVec F S16 .f32 := Host.absf main_arg1
  let main_cst_0 : FVec F S_ .f32 := constant S_ .f32 0x7F800000#32
  let main_v7 : FVec F S16 .f32 := broadcastInDim S16 ![] bcast_S_S16 main_cst_0
  let main_v8 : IVec S16 1 := cmpf .olt main_v6 main_v7
  let main_c_1 : IVec S_ 1 := constantI S_ 1 1#1
  let main_v9 : IVec S_ 1 := (fun x v => Host.reduce IntOp.andi x v reducesTo_S16_S_d0 h_S_) main_v8 main_c_1
  let main_v10 : IVec S_ 1 := andi main_v5 main_v9
  main_v10
-- ==== Pre_finite_inputs5.lean ====
abbrev S16384x4096 : Shape := ⟨2, ![16384, 4096]⟩
abbrev S4096 : Shape := ⟨1, ![4096]⟩
abbrev S4096x512 : Shape := ⟨2, ![4096, 512]⟩
abbrev S2x256x1024 : Shape := ⟨3, ![2, 256, 1024]⟩
abbrev S512x4096 : Shape := ⟨2, ![512, 4096]⟩
abbrev S4096x16 : Shape := ⟨2, ![4096, 16]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x512 : S_.BroadcastsInDim S4096x512 (![] : Fin 0 → Fin S4096x512.rank)
  reducesTo_S4096x512_S_d0_1 : S4096x512.ReducesTo [0, 1] S_
  bitsLt_bf16_f32 : FTy.bits .bf16 < FTy.bits .f32
  bcast_S_S2x256x1024 : S_.BroadcastsInDim S2x256x1024 (![] : Fin 0 → Fin S2x256x1024.rank)
  reducesTo_S2x256x1024_S_d0_1_2 : S2x256x1024.ReducesTo [0, 1, 2] S_
  bcast_S_S512x4096 : S_.BroadcastsInDim S512x4096 (![] : Fin 0 → Fin S512x4096.rank)
  reducesTo_S512x4096_S_d0_1 : S512x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part2 {F : FTy → Type} [FloatOps F] (main_v29 : IVec S_ 1) (main_v33 : IVec S_ 1) : IVec S_ 1 :=
  let main_v34 : IVec S_ 1 := andi main_v29 main_v33
  main_v34

def fn_part1 {F : FTy → Type} [FloatOps F] (main_arg4 : FVec F S512x4096 .f32) (main_arg5 : FVec F S4096 .f32) (main_arg6 : FVec F S4096x16 .f32) (main_v13 : IVec S_ 1) (main_v15 : FVec F S2x256x1024 .f32) (main_v16 : FVec F S2x256x1024 .f32) : IVec S_ 1 :=
  let main_v17 : IVec S2x256x1024 1 := cmpf .olt main_v15 main_v16
  let main_c_5 : IVec S_ 1 := constantI S_ 1 1#1
  let main_v18 : IVec S_ 1 := (fun x v => Host.reduce IntOp.andi x v reducesTo_S2x256x1024_S_d0_1_2 h_S_) main_v17 main_c_5
  let main_v19 : IVec S_ 1 := andi main_v13 main_v18
  let main_v20 : FVec F S512x4096 .f32 := Host.absf main_arg4
  let main_cst_6 : FVec F S_ .f32 := constant S_ .f32 0x7F800000#32
  let main_v21 : FVec F S512x4096 .f32 := broadcastInDim S512x4096 ![] bcast_S_S512x4096 main_cst_6
  let main_v22 : IVec S512x4096 1 := cmpf .olt main_v20 main_v21
  let main_c_7 : IVec S_ 1 := constantI S_ 1 1#1
  let main_v23 : IVec S_ 1 := (fun x v => Host.reduce IntOp.andi x v reducesTo_S512x4096_S_d0_1 h_S_) main_v22 main_c_7
  let main_v24 : IVec S_ 1 := andi main_v19 main_v23
  let main_v25 : FVec F S4096 .f32 := Host.absf main_arg5
  let main_cst_8 : FVec F S_ .f32 := constant S_ .f32 0x7F800000#32
  let main_v26 : FVec F S4096 .f32 := broadcastInDim S4096 ![] bcast_S_S4096 main_cst_8
  let main_v27 : IVec S4096 1 := cmpf .olt main_v25 main_v26
  let main_c_9 : IVec S_ 1 := constantI S_ 1 1#1
  let main_v28 : IVec S_ 1 := (fun x v => Host.reduce IntOp.andi x v reducesTo_S4096_S_d0 h_S_) main_v27 main_c_9
  let main_v29 : IVec S_ 1 := andi main_v24 main_v28
  let main_v30 : FVec F S4096x16 .f32 := Host.absf main_arg6
  let main_cst_10 : FVec F S_ .f32 := constant S_ .f32 0x7F800000#32
  let main_v31 : FVec F S4096x16 .f32 := broadcastInDim S4096x16 ![] bcast_S_S4096x16 main_cst_10
  let main_v32 : IVec S4096x16 1 := cmpf .olt main_v30 main_v31
  let main_c_11 : IVec S_ 1 := constantI S_ 1 1#1
  let main_v33 : IVec S_ 1 := (fun x v => Host.reduce IntOp.andi x v reducesTo_S4096x16_S_d0_1 h_S_) main_v32 main_c_11
  fn_part2 (F := F) main_v29 main_v33

def fn {F : FTy → Type} [FloatOps F] (main_arg0 : FVec F S16384x4096 .f32) (main_arg1 : FVec F S4096 .f32) (main_arg2 : FVec F S4096x512 .f32) (main_arg3 : FVec F S2x256x1024 .bf16) (main_arg4 : FVec F S512x4096 .f32) (main_arg5 : FVec F S4096 .f32) (main_arg6 : FVec F S4096x16 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S2x256x1024 .f32 := (extf .f32 · bitsLt_bf16_f32) main_arg3
  let main_v15 : FVec F S2x256x1024 .f32 := Host.absf main_v14
  let main_cst_4 : FVec F S_ .f32 := constant S_ .f32 0x7F800000#32
  let main_v16 : FVec F S2x256x1024 .f32 := broadcastInDim S2x256x1024 ![] bcast_S_S2x256x1024 main_cst_4
  fn_part1 (F := F) main_arg4 main_arg5 main_arg6 main_v13 main_v15 main_v16
-- ==== Kernel.lean ====
abbrev S16384x17408 : Shape := ⟨2, ![16384, 17408]⟩
abbrev S16 : Shape := ⟨1, ![16]⟩
abbrev S_ : Shape := ⟨0, ![]⟩
abbrev S16384x2048 : Shape := ⟨2, ![16384, 2048]⟩
abbrev S128x2048 : Shape := ⟨2, ![128, 2048]⟩
abbrev S128x512 : Shape := ⟨2, ![128, 512]⟩
abbrev S128x384 : Shape := ⟨2, ![128, 384]⟩
abbrev S1x128x384 : Shape := ⟨3, ![1, 128, 384]⟩
abbrev S4x1x1 : Shape := ⟨3, ![4, 1, 1]⟩
abbrev S128x128 : Shape := ⟨2, ![128, 128]⟩
abbrev S384x128 : Shape := ⟨2, ![384, 128]⟩
abbrev S512x128 : Shape := ⟨2, ![512, 128]⟩
abbrev S1 : Shape := ⟨1, ![1]⟩
abbrev S512x384 : Shape := ⟨2, ![512, 384]⟩
abbrev S4x128x384 : Shape := ⟨3, ![4, 128, 384]⟩
abbrev S4x128 : Shape := ⟨2, ![4, 128]⟩
abbrev S4x128x1 : Shape := ⟨3, ![4, 128, 1]⟩
abbrev S4x128x128 : Shape := ⟨3, ![4, 128, 128]⟩
abbrev S1x128x128 : Shape := ⟨3, ![1, 128, 128]⟩

abbrev nBuf : Space → Nat
  | .hbm => 16
  | .vmem => 16
  | .smem => 2
  | _ => 0

abbrev bufTy : (tb : Table) → Fin (tcTables nBuf tb) → BufTy
  | .hbm, ⟨0, _⟩ => ⟨S16384x17408, .bf16⟩
  | .hbm, ⟨1, _⟩ => ⟨S16, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S16384x2048, .bf16⟩
  | .local _ .vmem, ⟨0, _⟩ => ⟨S128x2048, .bf16⟩
  | .local _ .vmem, ⟨1, _⟩ => ⟨S128x2048, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x512, .bf16⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S128x2048, .bf16⟩
  | .local _ .vmem, ⟨15, _⟩ => ⟨S128x2048, .bf16⟩
  | .local _ .smem, ⟨0, _⟩ => ⟨S16, .f32⟩
  | .local _ .smem, ⟨1, _⟩ => ⟨S16, .f32⟩
  | _, _ => ⟨S16384x17408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 64], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c3_i32 : BitVec 32 := 3#32
  let c0_i32 : BitVec 32 := 0#32
  ![v1.toNat, c3_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c_m1_i32 : BitVec 32 := 4294967295#32
  let v1 : BitVec 32 := Scalar.addi arg1 c_m1_i32
  let c0_i32 : BitVec 32 := 0#32
  let c63_i32 : BitVec 32 := 63#32
  let v2 : BitVec 32 := Scalar.maxsi c0_i32 v1
  let v3 : BitVec 32 := Scalar.minsi c63_i32 v2
  let v4 : BitVec 32 := Scalar.addi v0 v3
  let c16_i32 : BitVec 32 := 16#32
  let c0_i32_0 : BitVec 32 := 0#32
  ![v4.toNat, c16_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi arg1 c0_i32
  let c0_i32_0 : BitVec 32 := 0#32
  let c63_i32 : BitVec 32 := 63#32
  let v2 : BitVec 32 := Scalar.maxsi c0_i32_0 v1
  let v3 : BitVec 32 := Scalar.minsi c63_i32 v2
  let v4 : BitVec 32 := Scalar.addi v0 v3
  let c16_i32 : BitVec 32 := 16#32
  let c0_i32_1 : BitVec 32 := 0#32
  ![v4.toNat, c16_i32.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.addi arg1 c1_i32
  let c0_i32 : BitVec 32 := 0#32
  let c63_i32 : BitVec 32 := 63#32
  let v2 : BitVec 32 := Scalar.maxsi c0_i32 v1
  let v3 : BitVec 32 := Scalar.minsi c63_i32 v2
  let v4 : BitVec 32 := Scalar.addi v0 v3
  let c16_i32 : BitVec 32 := 16#32
  let c0_i32_0 : BitVec 32 := 0#32
  ![v4.toNat, c16_i32.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c_m1_i32 : BitVec 32 := 4294967295#32
  let v1 : BitVec 32 := Scalar.addi arg1 c_m1_i32
  let c0_i32 : BitVec 32 := 0#32
  let c63_i32 : BitVec 32 := 63#32
  let v2 : BitVec 32 := Scalar.maxsi c0_i32 v1
  let v3 : BitVec 32 := Scalar.minsi c63_i32 v2
  let v4 : BitVec 32 := Scalar.addi v0 v3
  let c17_i32 : BitVec 32 := 17#32
  let c0_i32_0 : BitVec 32 := 0#32
  ![v4.toNat, c17_i32.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi arg1 c0_i32
  let c0_i32_0 : BitVec 32 := 0#32
  let c63_i32 : BitVec 32 := 63#32
  let v2 : BitVec 32 := Scalar.maxsi c0_i32_0 v1
  let v3 : BitVec 32 := Scalar.minsi c63_i32 v2
  let v4 : BitVec 32 := Scalar.addi v0 v3
  let c17_i32 : BitVec 32 := 17#32
  let c0_i32_1 : BitVec 32 := 0#32
  ![v4.toNat, c17_i32.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.addi arg1 c1_i32
  let c0_i32 : BitVec 32 := 0#32
  let c63_i32 : BitVec 32 := 63#32
  let v2 : BitVec 32 := Scalar.maxsi c0_i32 v1
  let v3 : BitVec 32 := Scalar.minsi c63_i32 v2
  let v4 : BitVec 32 := Scalar.addi v0 v3
  let c17_i32 : BitVec 32 := 17#32
  let c0_i32_0 : BitVec 32 := 0#32
  ![v4.toNat, c17_i32.toNat]

def cc0_transform_9 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "log2e" => some (((Real.log 2)⁻¹ : ℝ) : EReal)
  | "masked_dist" => some ⊤
  | "scale_log2e" => some (((Real.log 2)⁻¹ * (Real.sqrt 128)⁻¹ : ℝ) : EReal)
  | _ => none
-- ==== ReferenceIdeal.lean ====
abbrev S16384x17408 : Shape := ⟨2, ![16384, 17408]⟩
abbrev S16 : Shape := ⟨1, ![16]⟩
abbrev S2x8192x17408 : Shape := ⟨3, ![2, 8192, 17408]⟩
abbrev S2x8192x2048 : Shape := ⟨3, ![2, 8192, 2048]⟩
abbrev S2x8192x16x128 : Shape := ⟨4, ![2, 8192, 16, 128]⟩
abbrev S2x8192x512 : Shape := ⟨3, ![2, 8192, 512]⟩
abbrev S2x8192x4x128 : Shape := ⟨4, ![2, 8192, 4, 128]⟩
abbrev S2x64x128x4x4x128 : Shape := ⟨6, ![2, 64, 128, 4, 4, 128]⟩
abbrev S_ : Shape := ⟨0, ![]⟩
abbrev S2x8448x4x128 : Shape := ⟨4, ![2, 8448, 4, 128]⟩
abbrev S2x66x128x4x128 : Shape := ⟨5, ![2, 66, 128, 4, 128]⟩
abbrev S2x64x128x4x128 : Shape := ⟨5, ![2, 64, 128, 4, 128]⟩
abbrev S2x64x384x4x128 : Shape := ⟨5, ![2, 64, 384, 4, 128]⟩
abbrev S2x64x4x384x128x4 : Shape := ⟨6, ![2, 64, 4, 384, 128, 4]⟩
abbrev S2x64x4x4x128x384 : Shape := ⟨6, ![2, 64, 4, 4, 128, 384]⟩
abbrev S8192 : Shape := ⟨1, ![8192]⟩
abbrev S64x128 : Shape := ⟨2, ![64, 128]⟩
abbrev S64 : Shape := ⟨1, ![64]⟩
abbrev S64x1 : Shape := ⟨2, ![64, 1]⟩
abbrev S384 : Shape := ⟨1, ![384]⟩
abbrev S1x384 : Shape := ⟨2, ![1, 384]⟩
abbrev S64x384 : Shape := ⟨2, ![64, 384]⟩
abbrev S64x128x1 : Shape := ⟨3, ![64, 128, 1]⟩
abbrev S64x1x384 : Shape := ⟨3, ![64, 1, 384]⟩
abbrev S64x128x384 : Shape := ⟨3, ![64, 128, 384]⟩
abbrev S4x4 : Shape := ⟨2, ![4, 4]⟩
abbrev S1x4x4x1x1 : Shape := ⟨5, ![1, 4, 4, 1, 1]⟩
abbrev S64x1x1x128x384 : Shape := ⟨5, ![64, 1, 1, 128, 384]⟩
abbrev S64x4x4x128x384 : Shape := ⟨5, ![64, 4, 4, 128, 384]⟩
abbrev S1x64x4x4x128x384 : Shape := ⟨6, ![1, 64, 4, 4, 128, 384]⟩
abbrev S1x1x4x4x1x1 : Shape := ⟨6, ![1, 1, 4, 4, 1, 1]⟩
abbrev S2x64x4x4x128x1 : Shape := ⟨6, ![2, 64, 4, 4, 128, 1]⟩
abbrev S2x64x4x4x128x385 : Shape := ⟨6, ![2, 64, 4, 4, 128, 385]⟩
abbrev S2x64x4x4x128 : Shape := ⟨5, ![2, 64, 4, 4, 128]⟩
abbrev S2x64x4x128x4x128 : Shape := ⟨6, ![2, 64, 4, 128, 4, 128]⟩
abbrev S16384x2048 : Shape := ⟨2, ![16384, 2048]⟩

abbrev nBuf : Space → Nat
  | .hbm => 124
  | .vmem => 0
  | .smem => 0
  | _ => 0

abbrev bufTy : (tb : Table) → Fin (tcTables nBuf tb) → BufTy
  | .hbm, ⟨0, _⟩ => ⟨S16384x17408, .bf16⟩
  | .hbm, ⟨1, _⟩ => ⟨S16, .f32⟩
  | .hbm, ⟨2, _⟩ => ⟨S16384x17408, .f32⟩
  | .hbm, ⟨3, _⟩ => ⟨S2x8192x17408, .f32⟩
  | .hbm, ⟨4, _⟩ => ⟨S2x8192x2048, .f32⟩
  | .hbm, ⟨5, _⟩ => ⟨S2x8192x16x128, .f32⟩
  | .hbm, ⟨6, _⟩ => ⟨S2x8192x512, .f32⟩
  | .hbm, ⟨7, _⟩ => ⟨S2x8192x4x128, .f32⟩
  | .hbm, ⟨8, _⟩ => ⟨S2x8192x512, .f32⟩
  | .hbm, ⟨9, _⟩ => ⟨S2x8192x4x128, .f32⟩
  | .hbm, ⟨10, _⟩ => ⟨S2x64x128x4x4x128, .f32⟩
  | .hbm, ⟨11, _⟩ => ⟨S_, .i32⟩
  | .hbm, ⟨12, _⟩ => ⟨S_, .f32⟩
  | .hbm, ⟨13, _⟩ => ⟨S2x8448x4x128, .f32⟩
  | .hbm, ⟨14, _⟩ => ⟨S2x66x128x4x128, .f32⟩
  | .hbm, ⟨15, _⟩ => ⟨S2x64x128x4x128, .f32⟩
  | .hbm, ⟨16, _⟩ => ⟨S2x64x128x4x128, .f32⟩
  | .hbm, ⟨17, _⟩ => ⟨S2x64x128x4x128, .f32⟩
  | .hbm, ⟨18, _⟩ => ⟨S2x64x384x4x128, .f32⟩
  | .hbm, ⟨19, _⟩ => ⟨S_, .i32⟩
  | .hbm, ⟨20, _⟩ => ⟨S_, .f32⟩
  | .hbm, ⟨21, _⟩ => ⟨S2x8448x4x128, .f32⟩
  | .hbm, ⟨22, _⟩ => ⟨S2x66x128x4x128, .f32⟩
  | .hbm, ⟨23, _⟩ => ⟨S2x64x128x4x128, .f32⟩
  | .hbm, ⟨24, _⟩ => ⟨S2x64x128x4x128, .f32⟩
  | .hbm, ⟨25, _⟩ => ⟨S2x64x128x4x128, .f32⟩
  | .hbm, ⟨26, _⟩ => ⟨S2x64x384x4x128, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2x64x4x384x128x4, .f32⟩
  | .hbm, ⟨32, _⟩ => ⟨S2x64x4x4x128x384, .f32⟩
  | .hbm, ⟨33, _⟩ => ⟨S2x64x4x4x128x384, .f32⟩
  | .hbm, ⟨34, _⟩ => ⟨S2x64x4x4x128x384, .f32⟩
  | .hbm, ⟨35, _⟩ => ⟨S8192, .i32⟩
  | .hbm, ⟨36, _⟩ => ⟨S64x128, .i32⟩
  | .hbm, ⟨37, _⟩ => ⟨S64, .i32⟩
  | .hbm, ⟨38, _⟩ => ⟨S64x1, .i32⟩
  | .hbm, ⟨39, _⟩ => ⟨S_, .i32⟩
  | .hbm, ⟨40, _⟩ => ⟨S64x1, .i32⟩
  | .hbm, ⟨41, _⟩ => ⟨S64x1, .i32⟩
  | .hbm, ⟨42, _⟩ => ⟨S_, .i32⟩
  | .hbm, ⟨43, _⟩ => ⟨S64x1, .i32⟩
  | .hbm, ⟨44, _⟩ => ⟨S64x1, .i32⟩
  | .hbm, ⟨45, _⟩ => ⟨S384, .i32⟩
  | .hbm, ⟨46, _⟩ => ⟨S1x384, .i32⟩
  | .hbm, ⟨47, _⟩ => ⟨S64x384, .i32⟩
  | .hbm, ⟨48, _⟩ => ⟨S64x384, .i32⟩
  | .hbm, ⟨49, _⟩ => ⟨S64x384, .i32⟩
  | .hbm, ⟨50, _⟩ => ⟨S64x128x1, .i32⟩
  | .hbm, ⟨51, _⟩ => ⟨S64x1x384, .i32⟩
  | .hbm, ⟨52, _⟩ => ⟨S64x128x384, .i32⟩
  | .hbm, ⟨53, _⟩ => ⟨S64x128x384, .i32⟩
  | .hbm, ⟨54, _⟩ => ⟨S64x128x384, .i32⟩
  | .hbm, ⟨55, _⟩ => ⟨S64x128x384, .i32⟩
  | .hbm, ⟨56, _⟩ => ⟨S_, .i32⟩
  | .hbm, ⟨57, _⟩ => ⟨S64x128x384, .i32⟩
  | .hbm, ⟨58, _⟩ => ⟨S64x128x384, .i1⟩
  | .hbm, ⟨59, _⟩ => ⟨S_, .i32⟩
  | .hbm, ⟨60, _⟩ => ⟨S64x384, .i32⟩
  | .hbm, ⟨61, _⟩ => ⟨S64x384, .i1⟩
  | .hbm, ⟨62, _⟩ => ⟨S64x1x384, .i1⟩
  | .hbm, ⟨63, _⟩ => ⟨S64x128x384, .i1⟩
  | .hbm, ⟨64, _⟩ => ⟨S64x128x384, .i1⟩
  | .hbm, ⟨65, _⟩ => ⟨S_, .i32⟩
  | .hbm, ⟨66, _⟩ => ⟨S64x384, .i32⟩
  | .hbm, ⟨67, _⟩ => ⟨S64x384, .i1⟩
  | .hbm, ⟨68, _⟩ => ⟨S64x1x384, .i1⟩
  | .hbm, ⟨69, _⟩ => ⟨S64x128x384, .i1⟩
  | .hbm, ⟨70, _⟩ => ⟨S64x128x384, .i1⟩
  | .hbm, ⟨71, _⟩ => ⟨S16, .f32⟩
  | .hbm, ⟨72, _⟩ => ⟨S_, .f32⟩
  | .hbm, ⟨73, _⟩ => ⟨S16, .f32⟩
  | .hbm, ⟨74, _⟩ => ⟨S16, .f32⟩
  | .hbm, ⟨75, _⟩ => ⟨S_, .f32⟩
  | .hbm, ⟨76, _⟩ => ⟨S16, .f32⟩
  | .hbm, ⟨77, _⟩ => ⟨S16, .f32⟩
  | .hbm, ⟨78, _⟩ => ⟨S_, .f32⟩
  | .hbm, ⟨79, _⟩ => ⟨S16, .f32⟩
  | .hbm, ⟨80, _⟩ => ⟨S16, .f32⟩
  | .hbm, ⟨81, _⟩ => ⟨S_, .f32⟩
  | .hbm, ⟨82, _⟩ => ⟨S16, .f32⟩
  | .hbm, ⟨83, _⟩ => ⟨S16, .f32⟩
  | .hbm, ⟨84, _⟩ => ⟨S4x4, .f32⟩
  | .hbm, ⟨85, _⟩ => ⟨S1x4x4x1x1, .f32⟩
  | .hbm, ⟨86, _⟩ => ⟨S1x4x4x1x1, .f32⟩
  | .hbm, ⟨87, _⟩ => ⟨S64x128x384, .f32⟩
  | .hbm, ⟨88, _⟩ => ⟨S64x1x1x128x384, .f32⟩
  | .hbm, ⟨89, _⟩ => ⟨S64x4x4x128x384, .f32⟩
  | .hbm, ⟨90, _⟩ => ⟨S64x4x4x128x384, .f32⟩
  | .hbm, ⟨91, _⟩ => ⟨S64x4x4x128x384, .f32⟩
  | .hbm, ⟨92, _⟩ => ⟨S64x1x1x128x384, .i1⟩
  | .hbm, ⟨93, _⟩ => ⟨S1x64x4x4x128x384, .f32⟩
  | .hbm, ⟨94, _⟩ => ⟨S2x64x4x4x128x384, .f32⟩
  | .hbm, ⟨95, _⟩ => ⟨S2x64x4x4x128x384, .f32⟩
  | .hbm, ⟨96, _⟩ => ⟨S_, .f32⟩
  | .hbm, ⟨97, _⟩ => ⟨S_, .f32⟩
  | .hbm, ⟨98, _⟩ => ⟨S2x64x4x4x128x384, .i1⟩
  | .hbm, ⟨99, _⟩ => ⟨S2x64x4x4x128x384, .f32⟩
  | .hbm, ⟨100, _⟩ => ⟨S2x64x4x4x128x384, .f32⟩
  | .hbm, ⟨101, _⟩ => ⟨S1x1x4x4x1x1, .f32⟩
  | .hbm, ⟨102, _⟩ => ⟨S2x64x4x4x128x1, .f32⟩
  | .hbm, ⟨103, _⟩ => ⟨S2x64x4x4x128x385, .f32⟩
  | .hbm, ⟨104, _⟩ => ⟨S_, .f32⟩
  | .hbm, ⟨105, _⟩ => ⟨S2x64x4x4x128, .f32⟩
  | .hbm, ⟨106, _⟩ => ⟨S_, .f32⟩
  | .hbm, ⟨107, _⟩ => ⟨S2x64x4x4x128, .f32⟩
  | .hbm, ⟨108, _⟩ => ⟨S2x64x4x4x128, .f32⟩
  | .hbm, ⟨109, _⟩ => ⟨S2x64x4x4x128x1, .f32⟩
  | .hbm, ⟨110, _⟩ => ⟨S2x64x4x4x128x385, .f32⟩
  | .hbm, ⟨111, _⟩ => ⟨S2x64x4x4x128x385, .f32⟩
  | .hbm, ⟨112, _⟩ => ⟨S2x64x4x4x128x385, .f32⟩
  | .hbm, ⟨113, _⟩ => ⟨S_, .f32⟩
  | .hbm, ⟨114, _⟩ => ⟨S2x64x4x4x128, .f32⟩
  | .hbm, ⟨115, _⟩ => ⟨S2x64x4x4x128x1, .f32⟩
  | .hbm, ⟨116, _⟩ => ⟨S2x64x4x4x128x385, .f32⟩
  | .hbm, ⟨117, _⟩ => ⟨S2x64x4x4x128x385, .f32⟩
  | .hbm, ⟨118, _⟩ => ⟨S2x64x4x4x128x384, .f32⟩
  | .hbm, ⟨119, _⟩ => ⟨S2x64x4x128x4x128, .f32⟩
  | .hbm, ⟨120, _⟩ => ⟨S2x64x128x4x4x128, .f32⟩
  | .hbm, ⟨121, _⟩ => ⟨S2x8192x2048, .f32⟩
  | .hbm, ⟨122, _⟩ => ⟨S16384x2048, .f32⟩
  | .hbm, ⟨123, _⟩ => ⟨S16384x2048, .bf16⟩
  | _, _ => ⟨S16384x17408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c_0 : Ref sig .tc := ⟨.hbm, 19, rfl⟩
abbrev main_call1_v0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_2 : Ref sig .tc := ⟨.hbm, 39, rfl⟩
abbrev main_v31 : Ref sig .tc := ⟨.hbm, 40, rfl⟩
abbrev main_v32 : Ref sig .tc := ⟨.hbm, 41, rfl⟩
abbrev main_c_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_c_4 : Ref sig .tc := ⟨.hbm, 56, rfl⟩
abbrev main_v46 : Ref sig .tc := ⟨.hbm, 57, rfl⟩
abbrev main_v47 : Ref sig .tc := ⟨.hbm, 58, rfl⟩
abbrev main_c_5 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_c_6 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_7 : Ref sig .tc := ⟨.hbm, 72, rfl⟩
abbrev main_v59 : Ref sig .tc := ⟨.hbm, 73, rfl⟩
abbrev main_v60 : Ref sig .tc := ⟨.hbm, 74, rfl⟩
abbrev main_cst_8 : Ref sig .tc := ⟨.hbm, 75, rfl⟩
abbrev main_v61 : Ref sig .tc := ⟨.hbm, 76, rfl⟩
abbrev main_v62 : Ref sig .tc := ⟨.hbm, 77, rfl⟩
abbrev main_cst_9 : Ref sig .tc := ⟨.hbm, 78, rfl⟩
abbrev main_v63 : Ref sig .tc := ⟨.hbm, 79, rfl⟩
abbrev main_v64 : Ref sig .tc := ⟨.hbm, 80, rfl⟩
abbrev main_cst_10 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_11 : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_12 : Ref sig .tc := ⟨.hbm, 104, rfl⟩
abbrev main_v83 : Ref sig .tc := ⟨.hbm, 105, rfl⟩
abbrev main_cst_13 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_14 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩

abbrev nD : Nat := 1
abbrev τ : Topo := Topo.v7x

variable {F : FTy → Type} [FloatOps F]
-- ==== Kernel2.lean ====
abbrev S16384x4096 : Shape := ⟨2, ![16384, 4096]⟩
abbrev S4096x17408 : Shape := ⟨2, ![4096, 17408]⟩
abbrev S16384x17408 : Shape := ⟨2, ![16384, 17408]⟩
abbrev S1024x4096 : Shape := ⟨2, ![1024, 4096]⟩
abbrev S1024x1024 : Shape := ⟨2, ![1024, 1024]⟩
abbrev S4096x1024 : Shape := ⟨2, ![4096, 1024]⟩
abbrev S_ : Shape := ⟨0, ![]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x17408, .f32⟩
  | .hbm, ⟨2, _⟩ => ⟨S16384x17408, .bf16⟩
  | .local _ .vmem, ⟨0, _⟩ => ⟨S1024x4096, .bf16⟩
  | .local _ .vmem, ⟨1, _⟩ => ⟨S1024x4096, .bf16⟩
  | .local _ .vmem, ⟨2, _⟩ => ⟨S1024x1024, .bf16⟩
  | .local _ .vmem, ⟨3, _⟩ => ⟨S1024x1024, .bf16⟩
  | .local _ .vmem, ⟨4, _⟩ => ⟨S4096x1024, .f32⟩
  | .local _ .vmem, ⟨5, _⟩ => ⟨S4096x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![17, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_9 : BitVec 32 := 0#32
  let v17 : BitVec 1 := Scalar.cmpi .eq arg0 c0_i32_9
  let v18 : BitVec 32 := Scalar.extui v17
  let c0_i32_10 : BitVec 32 := 0#32
  let v19 : BitVec 1 := Scalar.cmpi .ne v18 c0_i32_10
  v19

def k0_mult1 (i : grid0.Coords) : BitVec 32 :=
  let arg0 : BitVec 32 := BitVec.ofNat 32 (i 0).val
  let c1024_i32_17 : BitVec 32 := 1024#32
  let v32 : BitVec 32 := Scalar.muli arg0 c1024_i32_17
  v32
def k0_off1 (i : grid0.Coords) : Fin 2 → Nat :=
  let c0_i32_18 : BitVec 32 := 0#32
  let arg0 : BitVec 32 := BitVec.ofNat 32 (i 0).val
  let c1024_i32_17 : BitVec 32 := 1024#32
  let v32 : BitVec 32 := Scalar.muli arg0 c1024_i32_17
  let v33 : BitVec 32 := v32
  ![0, v33.toNat]
def k0_mult2 (i : grid0.Coords) : BitVec 32 :=
  let arg0 : BitVec 32 := BitVec.ofNat 32 (i 0).val
  let c1024_i32 : BitVec 32 := 1024#32
  let v20 : BitVec 32 := Scalar.muli arg0 c1024_i32
  v20
def k0_off2 (i : grid0.Coords) : Fin 2 → Nat :=
  let c0_i32_11 : BitVec 32 := 0#32
  let arg0 : BitVec 32 := BitVec.ofNat 32 (i 0).val
  let c1024_i32 : BitVec 32 := 1024#32
  let v20 : BitVec 32 := Scalar.muli arg0 c1024_i32
  let v21 : BitVec 32 := v20
  ![0, v21.toNat]
def k0_cond3 (i : grid0.Coords) : BitVec 1 :=
  let arg0 : BitVec 32 := BitVec.ofNat 32 (i 0).val
  let c1_i32 : BitVec 32 := 1#32
  let v28 : BitVec 32 := Scalar.addi arg0 c1_i32
  let c17_i32 : BitVec 32 := 17#32
  let v29 : BitVec 1 := Scalar.cmpi .slt v28 c17_i32
  let v30 : BitVec 32 := Scalar.extui v29
  let c0_i32_16 : BitVec 32 := 0#32
  let v31 : BitVec 1 := Scalar.cmpi .ne v30 c0_i32_16
  v31

def k0_mult3 (i : grid0.Coords) : BitVec 32 :=
  let arg0 : BitVec 32 := BitVec.ofNat 32 (i 0).val
  let c1_i32_17 : BitVec 32 := 1#32
  let v32 : BitVec 32 := Scalar.addi arg0 c1_i32_17
  let c1024_i32_18 : BitVec 32 := 1024#32
  let v33 : BitVec 32 := Scalar.muli v32 c1024_i32_18
  v33
def k0_off3 (i : grid0.Coords) : Fin 2 → Nat :=
  let c0_i32_19 : BitVec 32 := 0#32
  let arg0 : BitVec 32 := BitVec.ofNat 32 (i 0).val
  let c1_i32_17 : BitVec 32 := 1#32
  let v32 : BitVec 32 := Scalar.addi arg0 c1_i32_17
  let c1024_i32_18 : BitVec 32 := 1024#32
  let v33 : BitVec 32 := Scalar.muli v32 c1024_i32_18
  let v34 : BitVec 32 := v33
  ![0, v34.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference2Ideal.lean ====
abbrev S16384x4096 : Shape := ⟨2, ![16384, 4096]⟩
abbrev S4096x17408 : Shape := ⟨2, ![4096, 17408]⟩
abbrev S16384x17408 : Shape := ⟨2, ![16384, 17408]⟩
abbrev S16384x9216 : Shape := ⟨2, ![16384, 9216]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x17408, .f32⟩
  | .hbm, ⟨2, _⟩ => ⟨S16384x4096, .f32⟩
  | .hbm, ⟨3, _⟩ => ⟨S16384x17408, .f32⟩
  | .hbm, ⟨4, _⟩ => ⟨S16384x9216, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S_, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384x4096, .f32⟩
  | .hbm, ⟨22, _⟩ => ⟨S16384x4096, .f32⟩
  | .hbm, ⟨23, _⟩ => ⟨S16384x17408, .f32⟩
  | .hbm, ⟨24, _⟩ => ⟨S16384x17408, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel3.lean ====
abbrev S16384x2048 : Shape := ⟨2, ![16384, 2048]⟩
abbrev S2048x4096 : Shape := ⟨2, ![2048, 4096]⟩
abbrev S16384x17408 : Shape := ⟨2, ![16384, 17408]⟩
abbrev S16384x4096 : Shape := ⟨2, ![16384, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 16
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2048x4096, .f32⟩
  | .hbm, ⟨3, _⟩ => ⟨S2048x4096, .f32⟩
  | .hbm, ⟨4, _⟩ => ⟨S16384x17408, .bf16⟩
  | .hbm, ⟨5, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S2048x512, .bf16⟩
  | .local _ .vmem, ⟨15, _⟩ => ⟨S2048x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S16384x2048 : Shape := ⟨2, ![16384, 2048]⟩
abbrev S2048x4096 : Shape := ⟨2, ![2048, 4096]⟩
abbrev S16384x17408 : Shape := ⟨2, ![16384, 17408]⟩
abbrev S16384x4096 : Shape := ⟨2, ![16384, 4096]⟩

abbrev nBuf : Space → Nat
  | .hbm => 17
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2048x4096, .f32⟩
  | .hbm, ⟨3, _⟩ => ⟨S2048x4096, .f32⟩
  | .hbm, ⟨4, _⟩ => ⟨S16384x17408, .bf16⟩
  | .hbm, ⟨5, _⟩ => ⟨S16384x4096, .bf16⟩
  | .hbm, ⟨6, _⟩ => ⟨S16384x4096, .f32⟩
  | .hbm, ⟨7, _⟩ => ⟨S16384x4096, .bf16⟩
  | .hbm, ⟨8, _⟩ => ⟨S16384x4096, .f32⟩
  | .hbm, ⟨9, _⟩ => ⟨S16384x2048, .f32⟩
  | .hbm, ⟨10, _⟩ => ⟨S16384x4096, .f32⟩
  | .hbm, ⟨11, _⟩ => ⟨S16384x2048, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel4.lean ====
abbrev S16384x4096 : Shape := ⟨2, ![16384, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S4096x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16384x4096 : Shape := ⟨2, ![16384, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S16384x4096, .f32⟩
  | .hbm, ⟨4, _⟩ => ⟨S16384x4096, .f32⟩
  | .hbm, ⟨5, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S16384x4096 : Shape := ⟨2, ![16384, 4096]⟩
abbrev S4096 : Shape := ⟨1, ![4096]⟩
abbrev S4096x512 : Shape := ⟨2, ![4096, 512]⟩
abbrev S2x256x1024 : Shape := ⟨3, ![2, 256, 1024]⟩
abbrev S512x4096 : Shape := ⟨2, ![512, 4096]⟩
abbrev S4096x16 : Shape := ⟨2, ![4096, 16]⟩
abbrev S4096x32 : Shape := ⟨2, ![4096, 32]⟩
abbrev S1x4096 : Shape := ⟨2, ![1, 4096]⟩
abbrev S16384x16 : Shape := ⟨2, ![16384, 16]⟩
abbrev S256x4096 : Shape := ⟨2, ![256, 4096]⟩
abbrev S1x256x1024 : Shape := ⟨3, ![1, 256, 1024]⟩
abbrev S256x16 : Shape := ⟨2, ![256, 16]⟩
abbrev S256 : Shape := ⟨1, ![256]⟩
abbrev S256x1 : Shape := ⟨2, ![256, 1]⟩
abbrev S256x512 : Shape := ⟨2, ![256, 512]⟩
abbrev S1x256x128 : Shape := ⟨3, ![1, 256, 128]⟩
abbrev S256x128 : Shape := ⟨2, ![256, 128]⟩
abbrev S256x256 : Shape := ⟨2, ![256, 256]⟩
abbrev S256x32 : Shape := ⟨2, ![256, 32]⟩

abbrev nBuf : Space → Nat
  | .hbm => 19
  | .vmem => 15
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x512, .f32⟩
  | .hbm, ⟨3, _⟩ => ⟨S2x256x1024, .bf16⟩
  | .hbm, ⟨4, _⟩ => ⟨S512x4096, .f32⟩
  | .hbm, ⟨5, _⟩ => ⟨S4096, .f32⟩
  | .hbm, ⟨6, _⟩ => ⟨S4096x16, .f32⟩
  | .hbm, ⟨7, _⟩ => ⟨S4096x16, .bf16⟩
  | .hbm, ⟨8, _⟩ => ⟨S4096x16, .f32⟩
  | .hbm, ⟨9, _⟩ => ⟨S4096x16, .f32⟩
  | .hbm, ⟨10, _⟩ => ⟨S4096x16, .bf16⟩
  | .hbm, ⟨11, _⟩ => ⟨S4096x512, .bf16⟩
  | .hbm, ⟨12, _⟩ => ⟨S512x4096, .bf16⟩
  | .hbm, ⟨13, _⟩ => ⟨S4096x32, .bf16⟩
  | .hbm, ⟨14, _⟩ => ⟨S1x4096, .f32⟩
  | .hbm, ⟨15, _⟩ => ⟨S1x4096, .f32⟩
  | .hbm, ⟨16, _⟩ => ⟨S16384x4096, .f32⟩
  | .hbm, ⟨17, _⟩ => ⟨S16384x4096, .bf16⟩
  | .hbm, ⟨18, _⟩ => ⟨S16384x16, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S4096x512, .bf16⟩
  | .local _ .vmem, ⟨4, _⟩ => ⟨S1x256x1024, .bf16⟩
  | .local _ .vmem, ⟨5, _⟩ => ⟨S1x256x1024, .bf16⟩
  | .local _ .vmem, ⟨6, _⟩ => ⟨S512x4096, .bf16⟩
  | .local _ .vmem, ⟨7, _⟩ => ⟨S1x4096, .f32⟩
  | .local _ .vmem, ⟨8, _⟩ => ⟨S4096x32, .bf16⟩
  | .local _ .vmem, ⟨9, _⟩ => ⟨S256x4096, .f32⟩
  | .local _ .vmem, ⟨10, _⟩ => ⟨S256x4096, .f32⟩
  | .local _ .vmem, ⟨11, _⟩ => ⟨S256x4096, .bf16⟩
  | .local _ .vmem, ⟨12, _⟩ => ⟨S256x4096, .bf16⟩
  | .local _ .vmem, ⟨13, _⟩ => ⟨S256x16, .f32⟩
  | .local _ .vmem, ⟨14, _⟩ => ⟨S256x16, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel5Ideal.lean ====
variable {F : FTy → Type} [FloatOps F] [Named F]
def κ : String → Option EReal := fun
  | "scale" => some (((Real.sqrt 128)⁻¹ : ℝ) : EReal)
  | _ => none
-- ==== Reference5Ideal.lean ====
abbrev S16384x4096 : Shape := ⟨2, ![16384, 4096]⟩
abbrev S4096 : Shape := ⟨1, ![4096]⟩
abbrev S4096x512 : Shape := ⟨2, ![4096, 512]⟩
abbrev S2x256x1024 : Shape := ⟨3, ![2, 256, 1024]⟩
abbrev S512x4096 : Shape := ⟨2, ![512, 4096]⟩
abbrev S4096x16 : Shape := ⟨2, ![4096, 16]⟩
abbrev S2x8192x4096 : Shape := ⟨3, ![2, 8192, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x8192x512 : Shape := ⟨3, ![2, 8192, 512]⟩
abbrev S2x8192x4x128 : Shape := ⟨4, ![2, 8192, 4, 128]⟩
abbrev S2x256x512 : Shape := ⟨3, ![2, 256, 512]⟩
abbrev S2x256x4x128 : Shape := ⟨4, ![2, 256, 4, 128]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩
abbrev S2x8192x16 : Shape := ⟨3, ![2, 8192, 16]⟩
abbrev S16384x16 : Shape := ⟨2, ![16384, 16]⟩

abbrev nBuf : Space → Nat
  | .hbm => 76
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x512, .f32⟩
  | .hbm, ⟨3, _⟩ => ⟨S2x256x1024, .bf16⟩
  | .hbm, ⟨4, _⟩ => ⟨S512x4096, .f32⟩
  | .hbm, ⟨5, _⟩ => ⟨S4096, .f32⟩
  | .hbm, ⟨6, _⟩ => ⟨S4096x16, .f32⟩
  | .hbm, ⟨7, _⟩ => ⟨S2x8192x4096, .f32⟩
  | .hbm, ⟨8, _⟩ => ⟨S2x8192x4096, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x4096, .f32⟩
  | .hbm, ⟨20, _⟩ => ⟨S2x8192x4096, .f32⟩
  | .hbm, ⟨21, _⟩ => ⟨S1x1x4096, .f32⟩
  | .hbm, ⟨22, _⟩ => ⟨S2x8192x4096, .f32⟩
  | .hbm, ⟨23, _⟩ => ⟨S2x8192x4096, .f32⟩
  | .hbm, ⟨24, _⟩ => ⟨S2x256x1024, .f32⟩
  | .hbm, ⟨25, _⟩ => ⟨S2x8192x512, .f32⟩
  | .hbm, ⟨26, _⟩ => ⟨S2x8192x4x128, .f32⟩
  | .hbm, ⟨27, _⟩ => ⟨S2x256x512, .f32⟩
  | .hbm, ⟨28, _⟩ => ⟨S2x256x4x128, .f32⟩
  | .hbm, ⟨29, _⟩ => ⟨S2x256x512, .f32⟩
  | .hbm, ⟨30, _⟩ => ⟨S2x256x4x128, .f32⟩
  | .hbm, ⟨31, _⟩ => ⟨S2x4x8192x256, .f32⟩
  | .hbm, ⟨32, _⟩ => ⟨S_, .f32⟩
  | .hbm, ⟨33, _⟩ => ⟨S_, .f32⟩
  | .hbm, ⟨34, _⟩ => ⟨S2x4x8192x256, .f32⟩
  | .hbm, ⟨35, _⟩ => ⟨S2x4x8192x256, .f32⟩
  | .hbm, ⟨36, _⟩ => ⟨S_, .f32⟩
  | .hbm, ⟨37, _⟩ => ⟨S2x4x8192, .f32⟩
  | .hbm, ⟨38, _⟩ => ⟨S_, .f32⟩
  | .hbm, ⟨39, _⟩ => ⟨S2x4x8192, .f32⟩
  | .hbm, ⟨40, _⟩ => ⟨S2x4x8192, .f32⟩
  | .hbm, ⟨41, _⟩ => ⟨S2x4x8192x1, .f32⟩
  | .hbm, ⟨42, _⟩ => ⟨S2x4x8192x256, .f32⟩
  | .hbm, ⟨43, _⟩ => ⟨S2x4x8192x256, .f32⟩
  | .hbm, ⟨44, _⟩ => ⟨S2x4x8192x256, .f32⟩
  | .hbm, ⟨45, _⟩ => ⟨S_, .f32⟩
  | .hbm, ⟨46, _⟩ => ⟨S2x4x8192, .f32⟩
  | .hbm, ⟨47, _⟩ => ⟨S2x4x8192x1, .f32⟩
  | .hbm, ⟨48, _⟩ => ⟨S2x4x8192x256, .f32⟩
  | .hbm, ⟨49, _⟩ => ⟨S2x4x8192x256, .f32⟩
  | .hbm, ⟨50, _⟩ => ⟨S2x4x128x8192, .f32⟩
  | .hbm, ⟨51, _⟩ => ⟨S2x8192x4x128, .f32⟩
  | .hbm, ⟨52, _⟩ => ⟨S2x8192x512, .f32⟩
  | .hbm, ⟨53, _⟩ => ⟨S2x8192x4096, .f32⟩
  | .hbm, ⟨54, _⟩ => ⟨S2x8192x4096, .f32⟩
  | .hbm, ⟨55, _⟩ => ⟨S2x8192x4096, .f32⟩
  | .hbm, ⟨56, _⟩ => ⟨S_, .f32⟩
  | .hbm, ⟨57, _⟩ => ⟨S2x8192, .f32⟩
  | .hbm, ⟨58, _⟩ => ⟨S2x8192x1, .f32⟩
  | .hbm, ⟨59, _⟩ => ⟨S_, .f32⟩
  | .hbm, ⟨60, _⟩ => ⟨S2x8192x1, .f32⟩
  | .hbm, ⟨61, _⟩ => ⟨S2x8192x1, .f32⟩
  | .hbm, ⟨62, _⟩ => ⟨S_, .f32⟩
  | .hbm, ⟨63, _⟩ => ⟨S2x8192x1, .f32⟩
  | .hbm, ⟨64, _⟩ => ⟨S2x8192x1, .f32⟩
  | .hbm, ⟨65, _⟩ => ⟨S2x8192x1, .f32⟩
  | .hbm, ⟨66, _⟩ => ⟨S2x8192x4096, .f32⟩
  | .hbm, ⟨67, _⟩ => ⟨S2x8192x4096, .f32⟩
  | .hbm, ⟨68, _⟩ => ⟨S1x1x4096, .f32⟩
  | .hbm, ⟨69, _⟩ => ⟨S2x8192x4096, .f32⟩
  | .hbm, ⟨70, _⟩ => ⟨S2x8192x4096, .f32⟩
  | .hbm, ⟨71, _⟩ => ⟨S2x8192x16, .f32⟩
  | .hbm, ⟨72, _⟩ => ⟨S16384x4096, .f32⟩
  | .hbm, ⟨73, _⟩ => ⟨S16384x4096, .f32⟩
  | .hbm, ⟨74, _⟩ => ⟨S16384x4096, .bf16⟩
  | .hbm, ⟨75, _⟩ => ⟨S16384x16, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== Kernel6.lean ====
abbrev S512x4096 : Shape := ⟨2, ![512, 4096]⟩
abbrev S4096 : Shape := ⟨1, ![4096]⟩
abbrev S4096x1024 : Shape := ⟨2, ![4096, 1024]⟩
abbrev S1x4096 : Shape := ⟨2, ![1, 4096]⟩
abbrev S512x1024 : Shape := ⟨2, ![512, 1024]⟩
abbrev S4096x512 : Shape := ⟨2, ![4096, 512]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S512x4096, .f32⟩
  | .hbm, ⟨1, _⟩ => ⟨S4096, .f32⟩
  | .hbm, ⟨2, _⟩ => ⟨S4096x1024, .f32⟩
  | .hbm, ⟨3, _⟩ => ⟨S4096x1024, .bf16⟩
  | .hbm, ⟨4, _⟩ => ⟨S1x4096, .f32⟩
  | .hbm, ⟨5, _⟩ => ⟨S512x1024, .bf16⟩
  | .local _ .vmem, ⟨0, _⟩ => ⟨S512x4096, .f32⟩
  | .local _ .vmem, ⟨1, _⟩ => ⟨S1x4096, .f32⟩
  | .local _ .vmem, ⟨2, _⟩ => ⟨S4096x512, .bf16⟩
  | .local _ .vmem, ⟨3, _⟩ => ⟨S4096x512, .bf16⟩
  | .local _ .vmem, ⟨4, _⟩ => ⟨S512x512, .bf16⟩
  | .local _ .vmem, ⟨5, _⟩ => ⟨S512x512, .bf16⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S512x4096 : Shape := ⟨2, ![512, 4096]⟩
abbrev S4096 : Shape := ⟨1, ![4096]⟩
abbrev S4096x1024 : Shape := ⟨2, ![4096, 1024]⟩
abbrev S_ : Shape := ⟨0, ![]⟩
abbrev S512 : Shape := ⟨1, ![512]⟩
abbrev S512x1 : Shape := ⟨2, ![512, 1]⟩
abbrev S1x4096 : Shape := ⟨2, ![1, 4096]⟩
abbrev S512x1024 : Shape := ⟨2, ![512, 1024]⟩

abbrev nBuf : Space → Nat
  | .hbm => 21
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S4096, .f32⟩
  | .hbm, ⟨2, _⟩ => ⟨S4096x1024, .f32⟩
  | .hbm, ⟨3, _⟩ => ⟨S512x4096, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x4096, .f32⟩
  | .hbm, ⟨15, _⟩ => ⟨S512x4096, .f32⟩
  | .hbm, ⟨16, _⟩ => ⟨S1x4096, .f32⟩
  | .hbm, ⟨17, _⟩ => ⟨S512x4096, .f32⟩
  | .hbm, ⟨18, _⟩ => ⟨S512x4096, .f32⟩
  | .hbm, ⟨19, _⟩ => ⟨S512x1024, .f32⟩
  | .hbm, ⟨20, _⟩ => ⟨S512x1024, .bf16⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel7.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel8.lean ====
abbrev S16384x17408 : Shape := ⟨2, ![16384, 17408]⟩
abbrev S3x2048 : Shape := ⟨2, ![3, 2048]⟩
abbrev S16384x2048 : Shape := ⟨2, ![16384, 2048]⟩
abbrev S512x1024 : Shape := ⟨2, ![512, 1024]⟩
abbrev S16x1024 : Shape := ⟨2, ![16, 1024]⟩
abbrev S3x1024 : Shape := ⟨2, ![3, 1024]⟩
abbrev S1x1024 : Shape := ⟨2, ![1, 1024]⟩

abbrev nBuf : Space → Nat
  | .hbm => 3
  | .vmem => 18
  | .smem => 0
  | _ => 0

abbrev bufTy : (tb : Table) → Fin (tcTables nBuf tb) → BufTy
  | .hbm, ⟨0, _⟩ => ⟨S16384x17408, .bf16⟩
  | .hbm, ⟨1, _⟩ => ⟨S3x2048, .f32⟩
  | .hbm, ⟨2, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S16x1024, .bf16⟩
  | .local _ .vmem, ⟨13, _⟩ => ⟨S16x1024, .bf16⟩
  | .local _ .vmem, ⟨14, _⟩ => ⟨S3x1024, .f32⟩
  | .local _ .vmem, ⟨15, _⟩ => ⟨S3x1024, .f32⟩
  | .local _ .vmem, ⟨16, _⟩ => ⟨S512x1024, .bf16⟩
  | .local _ .vmem, ⟨17, _⟩ => ⟨S512x1024, .bf16⟩
  | _, _ => ⟨S16384x17408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg1
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg1
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c2_i32 : BitVec 32 := 2#32
  let v3 : BitVec 32 := Scalar.addi c2_i32 arg1
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c4_i32 : BitVec 32 := 4#32
  let v3 : BitVec 32 := Scalar.addi c4_i32 arg1
  let c0_i32 : BitVec 32 := 0#32
  ![v2.toNat, v3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference8Ideal.lean ====
abbrev S16384x17408 : Shape := ⟨2, ![16384, 17408]⟩
abbrev S3x2048 : Shape := ⟨2, ![3, 2048]⟩
abbrev S2x8192x17408 : Shape := ⟨3, ![2, 8192, 17408]⟩
abbrev S2x8192x2048 : Shape := ⟨3, ![2, 8192, 2048]⟩
abbrev S_ : Shape := ⟨0, ![]⟩
abbrev S2x8194x2048 : Shape := ⟨3, ![2, 8194, 2048]⟩
abbrev S1x2048 : Shape := ⟨2, ![1, 2048]⟩
abbrev S2048 : Shape := ⟨1, ![2048]⟩
abbrev S1x1x2048 : Shape := ⟨3, ![1, 1, 2048]⟩
abbrev S16384x2048 : Shape := ⟨2, ![16384, 2048]⟩

abbrev nBuf : Space → Nat
  | .hbm => 34
  | .vmem => 0
  | .smem => 0
  | _ => 0

abbrev bufTy : (tb : Table) → Fin (tcTables nBuf tb) → BufTy
  | .hbm, ⟨0, _⟩ => ⟨S16384x17408, .bf16⟩
  | .hbm, ⟨1, _⟩ => ⟨S3x2048, .f32⟩
  | .hbm, ⟨2, _⟩ => ⟨S2x8192x17408, .bf16⟩
  | .hbm, ⟨3, _⟩ => ⟨S2x8192x17408, .f32⟩
  | .hbm, ⟨4, _⟩ => ⟨S2x8192x2048, .f32⟩
  | .hbm, ⟨5, _⟩ => ⟨S2x8192x2048, .f32⟩
  | .hbm, ⟨6, _⟩ => ⟨S2x8192x2048, .f32⟩
  | .hbm, ⟨7, _⟩ => ⟨S2x8192x2048, .f32⟩
  | .hbm, ⟨8, _⟩ => ⟨S_, .i32⟩
  | .hbm, ⟨9, _⟩ => ⟨S_, .f32⟩
  | .hbm, ⟨10, _⟩ => ⟨S2x8194x2048, .f32⟩
  | .hbm, ⟨11, _⟩ => ⟨S1x2048, .f32⟩
  | .hbm, ⟨12, _⟩ => ⟨S2048, .f32⟩
  | .hbm, ⟨13, _⟩ => ⟨S2x8192x2048, .f32⟩
  | .hbm, ⟨14, _⟩ => ⟨S1x1x2048, .f32⟩
  | .hbm, ⟨15, _⟩ => ⟨S2x8192x2048, .f32⟩
  | .hbm, ⟨16, _⟩ => ⟨S2x8192x2048, .f32⟩
  | .hbm, ⟨17, _⟩ => ⟨S1x2048, .f32⟩
  | .hbm, ⟨18, _⟩ => ⟨S2048, .f32⟩
  | .hbm, ⟨19, _⟩ => ⟨S2x8192x2048, .f32⟩
  | .hbm, ⟨20, _⟩ => ⟨S1x1x2048, .f32⟩
  | .hbm, ⟨21, _⟩ => ⟨S2x8192x2048, .f32⟩
  | .hbm, ⟨22, _⟩ => ⟨S2x8192x2048, .f32⟩
  | .hbm, ⟨23, _⟩ => ⟨S2x8192x2048, .f32⟩
  | .hbm, ⟨24, _⟩ => ⟨S1x2048, .f32⟩
  | .hbm, ⟨25, _⟩ => ⟨S2048, .f32⟩
  | .hbm, ⟨26, _⟩ => ⟨S2x8192x2048, .f32⟩
  | .hbm, ⟨27, _⟩ => ⟨S1x1x2048, .f32⟩
  | .hbm, ⟨28, _⟩ => ⟨S2x8192x2048, .f32⟩
  | .hbm, ⟨29, _⟩ => ⟨S2x8192x2048, .f32⟩
  | .hbm, ⟨30, _⟩ => ⟨S2x8192x2048, .f32⟩
  | .hbm, ⟨31, _⟩ => ⟨S2x8192x2048, .f32⟩
  | .hbm, ⟨32, _⟩ => ⟨S16384x2048, .f32⟩
  | .hbm, ⟨33, _⟩ => ⟨S16384x2048, .bf16⟩
  | _, _ => ⟨S16384x17408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]
-- ==== Kernel9.lean ====
abbrev S2x8192x16 : Shape := ⟨3, ![2, 8192, 16]⟩
abbrev S2x64x16 : Shape := ⟨3, ![2, 64, 16]⟩
abbrev S1x8192x16 : Shape := ⟨3, ![1, 8192, 16]⟩
abbrev S1x64x16 : Shape := ⟨3, ![1, 64, 16]⟩
abbrev S8192x16 : Shape := ⟨2, ![8192, 16]⟩
abbrev S8192 : Shape := ⟨1, ![8192]⟩
abbrev S8192x1 : Shape := ⟨2, ![8192, 1]⟩
abbrev S1x16 : Shape := ⟨2, ![1, 16]⟩
abbrev S16 : Shape := ⟨1, ![16]⟩
abbrev S256x256 : Shape := ⟨2, ![256, 256]⟩
abbrev S256x16 : Shape := ⟨2, ![256, 16]⟩
abbrev S64x16 : Shape := ⟨2, ![64, 16]⟩

abbrev nBuf : Space → Nat
  | .hbm => 5
  | .vmem => 14
  | .smem => 0
  | _ => 0

abbrev bufTy : (tb : Table) → Fin (tcTables nBuf tb) → BufTy
  | .hbm, ⟨0, _⟩ => ⟨S2x8192x16, .f32⟩
  | .hbm, ⟨1, _⟩ => ⟨S2x8192x16, .i32⟩
  | .hbm, ⟨2, _⟩ => ⟨S2x8192x16, .f32⟩
  | .hbm, ⟨3, _⟩ => ⟨S2x8192x16, .i32⟩
  | .hbm, ⟨4, _⟩ => ⟨S2x64x16, .i32⟩
  | .local _ .vmem, ⟨0, _⟩ => ⟨S1x8192x16, .f32⟩
  | .local _ .vmem, ⟨1, _⟩ => ⟨S1x8192x16, .f32⟩
  | .local _ .vmem, ⟨2, _⟩ => ⟨S1x8192x16, .i32⟩
  | .local _ .vmem, ⟨3, _⟩ => ⟨S1x8192x16, .i32⟩
  | .local _ .vmem, ⟨4, _⟩ => ⟨S1x8192x16, .f32⟩
  | .local _ .vmem, ⟨5, _⟩ => ⟨S1x8192x16, .f32⟩
  | .local _ .vmem, ⟨6, _⟩ => ⟨S1x8192x16, .i32⟩
  | .local _ .vmem, ⟨7, _⟩ => ⟨S1x8192x16, .i32⟩
  | .local _ .vmem, ⟨8, _⟩ => ⟨S1x64x16, .i32⟩
  | .local _ .vmem, ⟨9, _⟩ => ⟨S1x64x16, .i32⟩
  | .local _ .vmem, ⟨10, _⟩ => ⟨S8192x16, .bf16⟩
  | .local _ .vmem, ⟨11, _⟩ => ⟨S8192x16, .bf16⟩
  | .local _ .vmem, ⟨12, _⟩ => ⟨S8192x16, .f32⟩
  | .local _ .vmem, ⟨13, _⟩ => ⟨S8192x16, .f32⟩
  | _, _ => ⟨S2x8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32_6 : BitVec 32 := 0#32
  let c31_i32 : BitVec 32 := 31#32
  let v15 : BitVec 32 := Scalar.addi c0_i32_6 c31_i32
  let c1_i32 : BitVec 32 := 1#32
  ⟨c0_i32_6, v15, c1_i32⟩
@[reducible] def k0_t2_loop : Scf.Loop 32 :=
  let c0_i32_18 : BitVec 32 := 0#32
  let c32_i32 : BitVec 32 := 32#32
  let v49 : BitVec 32 := Scalar.addi c0_i32_18 c32_i32
  let c1_i32_19 : BitVec 32 := 1#32
  ⟨c0_i32_18, v49, c1_i32_19⟩
def k0_mult1 (k0_t2 : Fin k0_t2_loop.trips) : BitVec 32 :=
  let c0_i32_18 : BitVec 32 := 0#32
  let c1_i32_19 : BitVec 32 := 1#32
  let arg10 : BitVec 32 := Scf.iv c0_i32_18 c1_i32_19 k0_t2
  let c256_i32 : BitVec 32 := 256#32
  let v76 : BitVec 32 := Scalar.muli arg10 c256_i32
  v76
def k0_off1 (k0_t2 : Fin k0_t2_loop.trips) : Fin 2 → Nat :=
  let c0_i32_18 : BitVec 32 := 0#32
  let c1_i32_19 : BitVec 32 := 1#32
  let arg10 : BitVec 32 := Scf.iv c0_i32_18 c1_i32_19 k0_t2
  let c256_i32 : BitVec 32 := 256#32
  let v76 : BitVec 32 := Scalar.muli arg10 c256_i32
  let v77 : BitVec 32 := v76
  let v78 : Index := Scalar.indexCast v77
  let c0_37 : Index := 0#32
  ![v78.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192x16 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8192x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8192x16 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x16 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S2x8192x16 : Shape := ⟨3, ![2, 8192, 16]⟩
abbrev S_ : Shape := ⟨0, ![]⟩
abbrev S2x8192 : Shape := ⟨2, ![2, 8192]⟩
abbrev S2x8192x1 : Shape := ⟨3, ![2, 8192, 1]⟩

abbrev nBuf : Space → Nat
  | .hbm => 15
  | .vmem => 0
  | .smem => 0
  | _ => 0

abbrev bufTy : (tb : Table) → Fin (tcTables nBuf tb) → BufTy
  | .hbm, ⟨0, _⟩ => ⟨S2x8192x16, .f32⟩
  | .hbm, ⟨1, _⟩ => ⟨S_, .f32⟩
  | .hbm, ⟨2, _⟩ => ⟨S2x8192, .f32⟩
  | .hbm, ⟨3, _⟩ => ⟨S_, .f32⟩
  | .hbm, ⟨4, _⟩ => ⟨S2x8192, .f32⟩
  | .hbm, ⟨5, _⟩ => ⟨S2x8192, .f32⟩
  | .hbm, ⟨6, _⟩ => ⟨S2x8192x1, .f32⟩
  | .hbm, ⟨7, _⟩ => ⟨S2x8192x16, .f32⟩
  | .hbm, ⟨8, _⟩ => ⟨S2x8192x16, .f32⟩
  | .hbm, ⟨9, _⟩ => ⟨S2x8192x16, .f32⟩
  | .hbm, ⟨10, _⟩ => ⟨S_, .f32⟩
  | .hbm, ⟨11, _⟩ => ⟨S2x8192, .f32⟩
  | .hbm, ⟨12, _⟩ => ⟨S2x8192x1, .f32⟩
  | .hbm, ⟨13, _⟩ => ⟨S2x8192x16, .f32⟩
  | .hbm, ⟨14, _⟩ => ⟨S2x8192x16, .f32⟩
  | _, _ => ⟨S2x8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Proof.Head.lean ====
/- One head of the windowed attention as the idealized kernel computes it, read at one element: the four forms the
   body takes it in (one per key/value head) are the same scalar formula `headK`. -/
module

public import proofs.«01_k».proof.Proof.Gen.KernelIdeal.Skeleton
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.KernelIdeal.Attn

open Cert.KernelIdeal Cert.KernelIdeal.Gen

/-- The kernel's constant `1 / log 2`. -/
abbrev cL : EReal := Named.named (F := Ideal) (φ := .f32) κ "log2e" 0x3FB8AA3B#32
/-- The kernel's constant `1 / (log 2 · √128)`. -/
abbrev cS : EReal := Named.named (F := Ideal) (φ := .f32) κ "scale_log2e" 0x3E0293EE#32

/-- The kernel's base-2 logit of one key. -/
def scoreK (dot dist sl : EReal) : EReal := dot * cS - sl * cL * dist

/-- The kernel's running maximum: over the band's logits and the sink's. -/
def topK (dot dist : Fin 384 → EReal) (sl sk : EReal) : EReal :=
  max (Finset.fold max (Ideal.ofBits FTy.f32 4286578688#32) (fun x => scoreK (dot x) (dist x) sl) Finset.univ) (sk * cL)

/-- One output element of one head: the softmax over 384 band keys and the sink, applied to the values' column. -/
def headK (dot dist v : Fin 384 → EReal) (sl sk : EReal) : EReal :=
  Ideal.div
    (∑ x, FloatOps.exp2 (F := Ideal) (φ := .f32) (scoreK (dot x) (dist x) sl - topK dot dist sl sk) * v x)
    ((∑ x, FloatOps.exp2 (F := Ideal) (φ := .f32) (scoreK (dot x) (dist x) sl - topK dot dist sl sk))
      + FloatOps.exp2 (F := Ideal) (φ := .f32) (sk * cL - topK dot dist sl sk))

/-- The body's four-way choice of a head's scalar. -/
theorem sel_head (g : Fin 4) (a0 a1 a2 a3 z : EReal) :
    Scalar.select (IntOp.cmpi CmpIPredicate.eq (BitVec.ofNat 32 (g : ℕ)) 3#32) a3
      (Scalar.select (IntOp.cmpi CmpIPredicate.eq (BitVec.ofNat 32 (g : ℕ)) 2#32) a2
        (Scalar.select (IntOp.cmpi CmpIPredicate.eq (BitVec.ofNat 32 (g : ℕ)) 1#32) a1
          (Scalar.select (IntOp.cmpi CmpIPredicate.eq (BitVec.ofNat 32 (g : ℕ)) 0#32) a0 z))) = ![a0, a1, a2, a3] g := by
  fin_cases g <;> rfl

theorem tab_mul (g : Fin 4) (a0 a1 a2 a3 c : EReal) :
    ![a0 * c, a1 * c, a2 * c, a3 * c] g = ![a0, a1, a2, a3] g * c := by
  fin_cases g <;> rfl

section
variable (v23 : FVec Ideal S1x128x384 .f32) (kb vb : FVec Ideal S384x128 .bf16) (qb : FVec Ideal S512x128 .bf16)
  (s0 s1 s2 s3 k0 k1 k2 k3 : Elt Ideal .f32) (g : Fin 4) (r d : Fin 128)

abbrev io : IVec S4x1x1 32 := iota .tc S4x1x1 32 [0] iota_S4x1x1_d0_w32

abbrev headOf : EReal :=
  headK (fun j => ∑ x : Fin 128, qb (ix2 ⟨↑g * 128 + ↑r, by omega⟩ x) * kb (ix2 j x)) (fun j => v23 (ix3 0 r j))
    (fun j => vb (ix2 j d)) (![s0, s1, s2, s3] g) (![k0, k1, k2, k3] g)

theorem head0 :
    k0_pay8 (F := Ideal) v23 io kb vb qb (k0_pay5 io k0 k1) (k0_pay6 io s0 s1 s2) (k0_pay7 io) k2 s3 k3 (ix3 g r d)
      = headOf v23 kb vb qb s0 s1 s2 s3 k0 k1 k2 k3 g r d := by
  pointwise [k0_pay8, k0_pay5, k0_pay6, k0_pay7]
  simp only [sel_head, tab_mul]
  rfl

theorem head1 (z z' : Ideal .f32) :
    k0_pay21 (F := Ideal) v23 io kb vb qb (k0_pay18 io (broadcast S4x1x1 z) s0 s1 s2) (k0_pay19 io (broadcast S4x1x1 z') k0 k1 k2) (k0_pay20 io) s3 cL k3 (ix3 g r d)
      = headOf v23 kb vb qb s0 s1 s2 s3 k0 k1 k2 k3 g r d := by
  pointwise [k0_pay21, k0_pay18, k0_pay19, k0_pay20]
  simp only [sel_head, tab_mul]
  rfl

theorem head2 :
    k0_pay37 (F := Ideal) v23 kb vb qb (k0_pay33 io k0_pay30 k0_pay32 k0 k1 k2) (k0_pay34 io (k0_pay31 io s0) s1 s2 s3) (k0_pay35 io) (k0_pay36 k3) (ix3 g r d)
      = headOf v23 kb vb qb s0 s1 s2 s3 k0 k1 k2 k3 g r d := by
  pointwise [k0_pay37, k0_pay33, k0_pay34, k0_pay35, k0_pay36, k0_pay30, k0_pay31, k0_pay32]
  simp only [sel_head, tab_mul]
  rfl

theorem head3 :
    k0_pay50 (F := Ideal) vb (k0_pay48 io (k0_pay46 io k0) k1 k2 k3) (k0_pay49 v23 io kb qb (k0_pay45 io s0) (k0_pay47 io) s1 s2 s3) (ix3 g r d)
      = headOf v23 kb vb qb s0 s1 s2 s3 k0 k1 k2 k3 g r d := by
  pointwise [k0_pay50, k0_pay48, k0_pay46, k0_pay49, k0_pay45, k0_pay47]
  simp only [sel_head, tab_mul]
  rfl
end

end Cert.KernelIdeal.Attn

end
-- ==== Proof.Blocks.lean ====
/- What each window of the windowed attention's grid holds, read at coordinates of the argument arrays. -/
module

public import proofs.«01_k».proof.Proof.Gen.KernelIdeal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.KernelIdeal.Attn

open Cert.KernelIdeal Cert.KernelIdeal.Gen
variable (m : (ℓ : Loc nD τ sig) → Buf (Elt Ideal) ℓ) (c : Dev nD) (t : Fin cfg0.N)

/-- The windows' block indices in the point's number: 64 blocks of 128 rows per sequence, the neighbours clamped. -/
theorem idx : ∀ t : Fin cfg0.N,
    win0_2.index t = ![t.val, 3] ∧ win0_3.index t = ![t.val / 64 * 64 + (t.val % 64 - 1), 16]
    ∧ win0_4.index t = ![t.val, 16] ∧ win0_5.index t = ![t.val / 64 * 64 + min (t.val % 64 + 1) 63, 16]
    ∧ win0_6.index t = ![t.val / 64 * 64 + (t.val % 64 - 1), 17]
    ∧ win0_7.index t = ![t.val, 17] ∧ win0_8.index t = ![t.val / 64 * 64 + min (t.val % 64 + 1) 63, 17]
    ∧ win0_9.index t = ![t.val, 0] ∧ win0_0.index t = ![0] ∧ win0_1.index t = ![0] :=
  (by decide +kernel : ∀ t : Fin grid0.N, _)

theorem t_lt (t : Fin cfg0.N) : t.val < 128 := lt_of_lt_of_eq t.isLt (by decide +kernel)

/-- The projection array, the slopes and the sinks as the launch finds them. -/
abbrev X : FVec Ideal S16384x17408 .bf16 := m ((c : Thread nD τ).loc main_arg0)
abbrev SK : FVec Ideal S16 .f32 := m ((c : Thread nD τ).loc main_arg1)
abbrev SL : FVec Ideal S16 .f32 := V m c main_v8

theorem q_at (a : Fin 128) (z : Fin 2048) : (X0_2 m c t : FVec Ideal S128x2048 .bf16) (ix2 a z)
    = X m c (ix2 ⟨t.val * 128 + a, by have := t_lt t; omega⟩ ⟨6144 + z, by omega⟩) := by
  unfold X0_2 Pipeline.Window.fill
  rw [dif_pos (moved0_2 t _)]
  blk_ext [iblk, V, idx t]

theorem kl_at (a : Fin 128) (z : Fin 512) : (iblk m c 3 t : FVec Ideal S128x512 .bf16) (ix2 a z)
    = X m c (ix2 ⟨(t.val / 64 * 64 + (t.val % 64 - 1)) * 128 + a, by have := t_lt t; omega⟩ ⟨8192 + z, by omega⟩) := by
  blk_ext [iblk, V, idx t]
theorem kc_at (a : Fin 128) (z : Fin 512) : (iblk m c 4 t : FVec Ideal S128x512 .bf16) (ix2 a z)
    = X m c (ix2 ⟨t.val * 128 + a, by have := t_lt t; omega⟩ ⟨8192 + z, by omega⟩) := by
  blk_ext [iblk, V, idx t]
theorem kr_at (a : Fin 128) (z : Fin 512) : (iblk m c 5 t : FVec Ideal S128x512 .bf16) (ix2 a z)
    = X m c (ix2 ⟨(t.val / 64 * 64 + min (t.val % 64 + 1) 63) * 128 + a, by have := t_lt t; omega⟩ ⟨8192 + z, by omega⟩) := by
  blk_ext [iblk, V, idx t]
theorem vl_at (a : Fin 128) (z : Fin 512) : (iblk m c 6 t : FVec Ideal S128x512 .bf16) (ix2 a z)
    = X m c (ix2 ⟨(t.val / 64 * 64 + (t.val % 64 - 1)) * 128 + a, by have := t_lt t; omega⟩ ⟨8704 + z, by omega⟩) := by
  blk_ext [iblk, V, idx t]
theorem vc_at (a : Fin 128) (z : Fin 512) : (iblk m c 7 t : FVec Ideal S128x512 .bf16) (ix2 a z)
    = X m c (ix2 ⟨t.val * 128 + a, by have := t_lt t; omega⟩ ⟨8704 + z, by omega⟩) := by
  blk_ext [iblk, V, idx t]
theorem vr_at (a : Fin 128) (z : Fin 512) : (iblk m c 8 t : FVec Ideal S128x512 .bf16) (ix2 a z)
    = X m c (ix2 ⟨(t.val / 64 * 64 + min (t.val % 64 + 1) 63) * 128 + a, by have := t_lt t; omega⟩ ⟨8704 + z, by omega⟩) := by
  blk_ext [iblk, V, idx t]
theorem sl_at (a : Fin 16) : (iblk m c 0 t : FVec Ideal S16 .f32) (ix1 a) = SL m c (ix1 a) := by
  blk_ext [iblk, idx t]
theorem sk_at (a : Fin 16) : (iblk m c 1 t : FVec Ideal S16 .f32) (ix1 a) = SK m c (ix1 a) := by
  blk_ext [iblk, V, idx t]

/-- The row of the array that band position `j` of block `t` reads: the block before, the block, the block after, each
    clamped to the sequence. -/
def bandRow (t j : ℕ) : ℕ :=
  if j < 128 then (t / 64 * 64 + (t % 64 - 1)) * 128 + j
  else if j < 256 then t * 128 + (j - 128) else (t / 64 * 64 + min (t % 64 + 1) 63) * 128 + (j - 256)

theorem bandRow_lt {t j : ℕ} (ht : t < 128) (hj : j < 384) : bandRow t j < 16384 := by
  unfold bandRow; split_ifs <;> omega

/-- Three stacked blocks read at a band position: the array at `bandRow`. -/
theorem band_at (Y : FVec Ideal S16384x17408 .bf16) (o : ℕ) (ho : o + 128 ≤ 17408) (l k r : FVec Ideal S128x128 .bf16)
    (ht : t.val < 128)
    (hl : ∀ a z : Fin 128, l (ix2 a z) = Y (ix2 ⟨(t.val / 64 * 64 + (t.val % 64 - 1)) * 128 + a, by omega⟩ ⟨o + z, by omega⟩))
    (hk : ∀ a z : Fin 128, k (ix2 a z) = Y (ix2 ⟨t.val * 128 + a, by omega⟩ ⟨o + z, by omega⟩))
    (hr : ∀ a z : Fin 128, r (ix2 a z) = Y (ix2 ⟨(t.val / 64 * 64 + min (t.val % 64 + 1) 63) * 128 + a, by omega⟩ ⟨o + z, by omega⟩))
    (j : Fin 384) (z : Fin 128) :
    k0_pay2 (F := Ideal) l k r (ix2 j z) = Y (ix2 ⟨bandRow t.val j, bandRow_lt ht j.isLt⟩ ⟨o + z, by omega⟩) := by
  pointwise [k0_pay2]
  by_cases h1 : (j : ℕ) < 128
  · rw [dif_pos h1, hl]
    refine congrArg Y ((ix2_inj ..).2 ⟨Fin.ext ?_, rfl⟩)
    simp only [bandRow, if_pos h1]
  · rw [dif_neg h1]
    by_cases h2 : (j : ℕ) - 128 < 128
    · rw [dif_pos h2, hk]
      refine congrArg Y ((ix2_inj ..).2 ⟨Fin.ext ?_, rfl⟩)
      simp only [bandRow, if_neg h1, if_pos (show (j : ℕ) < 256 by omega)]
    · rw [dif_neg h2, hr]
      refine congrArg Y ((ix2_inj ..).2 ⟨Fin.ext ?_, rfl⟩)
      simp only [bandRow, if_neg h1, if_neg (show ¬ (j : ℕ) < 256 by omega)]
      omega

end Cert.KernelIdeal.Attn

end
-- ==== Proof.Point.lean ====
/- The block the windowed attention writes at one grid point, element by element, and the whole result array. -/
module

public import proofs.«01_k».proof.Proof.Head
public import proofs.«01_k».proof.Proof.Blocks

@[expose] public section

set_option maxRecDepth 16384

noncomputable section

open Idealize.ShloMosaic Idealize.ShloMosaic.TcCoe Idealize.SL.Sem

namespace Cert.KernelIdeal.Attn

open Cert.KernelIdeal Cert.KernelIdeal.Gen
variable (m : (ℓ : Loc nD τ sig) → Buf (Elt Ideal) ℓ) (c : Dev nD) (t : Fin cfg0.N)

/-- What block `t` holds for row `a` and column `e`, over the argument arrays. -/
def OUT (a : Fin 128) (e : Fin 2048) : EReal :=
  headK
    (fun j => ∑ x : Fin 128, X m c (ix2 ⟨t.val * 128 + a, by have := t_lt t; omega⟩ ⟨6144 + e / 128 * 128 + x, by omega⟩)
      * X m c (ix2 ⟨bandRow t.val j, bandRow_lt (t_lt t) j.isLt⟩ ⟨8192 + e / 512 * 128 + x, by omega⟩))
    (fun j => k0_pay1 (F := Ideal) (grid0.coords t) (ix3 0 a j))
    (fun j => X m c (ix2 ⟨bandRow t.val j, bandRow_lt (t_lt t) j.isLt⟩ ⟨8704 + e / 512 * 128 + e % 128, by omega⟩))
    (SL m c (ix1 ⟨e / 128, by omega⟩)) (SK m c (ix1 ⟨e / 128, by omega⟩))

theorem headK_congr {dot dot' dist dist' v v' : Fin 384 → EReal} {sl sl' sk sk' : EReal} (h1 : ∀ j, dot j = dot' j)
    (h2 : ∀ j, dist j = dist' j) (h3 : ∀ j, v j = v' j) (h4 : sl = sl') (h5 : sk = sk') :
    headK dot dist v sl sk = headK dot' dist' v' sl' sk' := by
  rw [funext h1, funext h2, funext h3, h4, h5]

/-- One head's formula over the loaded tiles is the block's element. -/
theorem head_piece (kh g : Fin 4) (kl kc kr vl vc vr q0 q1 q2 q3 : FVec Ideal S128x128 .bf16)
    (s0 s1 s2 s3 k0 k1 k2 k3 : Elt Ideal .f32) (a d : Fin 128) (a' : Fin 128) (e : Fin 2048)
    (hkl : ∀ a z : Fin 128, kl (ix2 a z) = (iblk m c 3 t : FVec Ideal S128x512 .bf16) (ix2 a ⟨kh * 128 + z, by omega⟩))
    (hkc : ∀ a z : Fin 128, kc (ix2 a z) = (iblk m c 4 t : FVec Ideal S128x512 .bf16) (ix2 a ⟨kh * 128 + z, by omega⟩))
    (hkr : ∀ a z : Fin 128, kr (ix2 a z) = (iblk m c 5 t : FVec Ideal S128x512 .bf16) (ix2 a ⟨kh * 128 + z, by omega⟩))
    (hvl : ∀ a z : Fin 128, vl (ix2 a z) = (iblk m c 6 t : FVec Ideal S128x512 .bf16) (ix2 a ⟨kh * 128 + z, by omega⟩))
    (hvc : ∀ a z : Fin 128, vc (ix2 a z) = (iblk m c 7 t : FVec Ideal S128x512 .bf16) (ix2 a ⟨kh * 128 + z, by omega⟩))
    (hvr : ∀ a z : Fin 128, vr (ix2 a z) = (iblk m c 8 t : FVec Ideal S128x512 .bf16) (ix2 a ⟨kh * 128 + z, by omega⟩))
    (hq0 : ∀ a z : Fin 128, q0 (ix2 a z) = (X0_2 m c t : FVec Ideal S128x2048 .bf16) (ix2 a ⟨kh * 512 + z, by omega⟩))
    (hq1 : ∀ a z : Fin 128, q1 (ix2 a z) = (X0_2 m c t : FVec Ideal S128x2048 .bf16) (ix2 a ⟨kh * 512 + 128 + z, by omega⟩))
    (hq2 : ∀ a z : Fin 128, q2 (ix2 a z) = (X0_2 m c t : FVec Ideal S128x2048 .bf16) (ix2 a ⟨kh * 512 + 256 + z, by omega⟩))
    (hq3 : ∀ a z : Fin 128, q3 (ix2 a z) = (X0_2 m c t : FVec Ideal S128x2048 .bf16) (ix2 a ⟨kh * 512 + 384 + z, by omega⟩))
    (hs : ∀ g : Fin 4, ![s0, s1, s2, s3] g = (iblk m c 0 t : FVec Ideal S16 .f32) (ix1 ⟨kh * 4 + g, by omega⟩))
    (hk : ∀ g : Fin 4, ![k0, k1, k2, k3] g = (iblk m c 1 t : FVec Ideal S16 .f32) (ix1 ⟨kh * 4 + g, by omega⟩))
    (h0 : (a' : ℕ) = a) (h1 : (e : ℕ) = kh * 512 + g * 128 + d) :
    headOf (k0_pay1 (F := Ideal) (grid0.coords t)) (k0_pay2 kl kc kr) (k0_pay2 vl vc vr) (k0_pay4 q0 q1 q2 q3)
      s0 s1 s2 s3 k0 k1 k2 k3 g a d = OUT m c t a' e := by
  obtain rfl : a' = a := Fin.ext h0
  refine headK_congr (fun j => Finset.sum_congr rfl fun x _ => Ideal.mul_congr ?_ ?_) (fun j => rfl) (fun j => ?_) ?_ ?_
  · have hq : (k0_pay4 (F := Ideal) q0 q1 q2 q3) (ix2 ⟨g * 128 + a', by omega⟩ x)
        = (X0_2 m c t : FVec Ideal S128x2048 .bf16) (ix2 a' ⟨kh * 512 + g * 128 + x, by omega⟩) := by
      pointwise [k0_pay4]
      fin_vals g with hg <;> simp only [hg]
      · rw [dif_pos (by omega), hq0]; blk_ext []
      · rw [dif_neg (by omega), dif_pos (by omega), hq1]; blk_ext []
      · rw [dif_neg (by omega), dif_neg (by omega), dif_pos (by omega), hq2]; blk_ext []
      · rw [dif_neg (by omega), dif_neg (by omega), dif_neg (by omega), hq3]; blk_ext []
    rw [hq, q_at]
    refine congrArg (X m c) ((ix2_inj ..).2 ⟨rfl, Fin.ext ?_⟩)
    show 6144 + ((kh : ℕ) * 512 + g * 128 + x) = 6144 + e / 128 * 128 + x
    omega
  · rw [band_at t (X m c) (8192 + kh * 128) (by omega) kl kc kr (t_lt t)
      (fun a z => by rw [hkl, kl_at]; blk_ext []) (fun a z => by rw [hkc, kc_at]; blk_ext [])
      (fun a z => by rw [hkr, kr_at]; blk_ext [])]
    refine congrArg (X m c) ((ix2_inj ..).2 ⟨rfl, Fin.ext ?_⟩)
    show 8192 + (kh : ℕ) * 128 + x = 8192 + e / 512 * 128 + x
    omega
  · rw [band_at t (X m c) (8704 + kh * 128) (by omega) vl vc vr (t_lt t)
      (fun a z => by rw [hvl, vl_at]; blk_ext []) (fun a z => by rw [hvc, vc_at]; blk_ext [])
      (fun a z => by rw [hvr, vr_at]; blk_ext [])]
    refine congrArg (X m c) ((ix2_inj ..).2 ⟨rfl, Fin.ext ?_⟩)
    show 8704 + (kh : ℕ) * 128 + d = 8704 + e / 512 * 128 + e % 128
    omega
  · rw [hs, sl_at]
    refine congrArg (SL m c) (congrArg ix1 (Fin.ext ?_))
    show (kh : ℕ) * 4 + g = e / 128
    omega
  · rw [hk, sk_at]
    refine congrArg (SK m c) (congrArg ix1 (Fin.ext ?_))
    show (kh : ℕ) * 4 + g = e / 128
    omega

set_option maxHeartbeats 2000000 in
/-- THE BLOCK: sixteen stored tiles, one per head, each the head's formula. -/
theorem outs_at (y : S128x2048.Idx) :
    outsAt0 m c t y = OUT m c t (y 0) (y 1) := by
  unfold outsAt0
  frame_out
  canon_tiles x h
  case piece0 =>
    idx_vars x
    pointwise [k0_pay54]
    refine (head3 _ _ _ _ _ _ _ _ _ _ _ _ (3 : Fin 4) x0 x1).trans (head_piece m c t 3 3 _ _ _ _ _ _ _ _ _ _ _ _ _ _ _ _ _ _ x0 x1 _ _
      ?_ ?_ ?_ ?_ ?_ ?_ ?_ ?_ ?_ ?_ (fun g => by fin_cases g <;> rfl) (fun g => by fin_cases g <;> rfl) h0 (h1.trans (by simp)))
    all_goals (intro a z; (try simp only [Memref.IsWhole.read_unread]); pointwise; blk_ext [])
  case piece1 =>
    idx_vars x
    pointwise [k0_pay53]
    refine (head3 _ _ _ _ _ _ _ _ _ _ _ _ (2 : Fin 4) x0 x1).trans (head_piece m c t 3 2 _ _ _ _ _ _ _ _ _ _ _ _ _ _ _ _ _ _ x0 x1 _ _
      ?_ ?_ ?_ ?_ ?_ ?_ ?_ ?_ ?_ ?_ (fun g => by fin_cases g <;> rfl) (fun g => by fin_cases g <;> rfl) h0 (h1.trans (by simp)))
    all_goals (intro a z; (try simp only [Memref.IsWhole.read_unread]); pointwise; blk_ext [])
  case piece2 =>
    idx_vars x
    pointwise [k0_pay52]
    refine (head3 _ _ _ _ _ _ _ _ _ _ _ _ (1 : Fin 4) x0 x1).trans (head_piece m c t 3 1 _ _ _ _ _ _ _ _ _ _ _ _ _ _ _ _ _ _ x0 x1 _ _
      ?_ ?_ ?_ ?_ ?_ ?_ ?_ ?_ ?_ ?_ (fun g => by fin_cases g <;> rfl) (fun g => by fin_cases g <;> rfl) h0 (h1.trans (by simp)))
    all_goals (intro a z; (try simp only [Memref.IsWhole.read_unread]); pointwise; blk_ext [])
  case piece3 =>
    idx_vars x
    pointwise [k0_pay51]
    refine (head3 _ _ _ _ _ _ _ _ _ _ _ _ (0 : Fin 4) x0 x1).trans (head_piece m c t 3 0 _ _ _ _ _ _ _ _ _ _ _ _ _ _ _ _ _ _ x0 x1 _ _
      ?_ ?_ ?_ ?_ ?_ ?_ ?_ ?_ ?_ ?_ (fun g => by fin_cases g <;> rfl) (fun g => by fin_cases g <;> rfl) h0 (h1.trans (by simp)))
    all_goals (intro a z; (try simp only [Memref.IsWhole.read_unread]); pointwise; blk_ext [])
  case piece4 =>
    idx_vars x
    pointwise [k0_pay41]
    refine (head2 _ _ _ _ _ _ _ _ _ _ _ _ (3 : Fin 4) x0 x1).trans (head_piece m c t 2 3 _ _ _ _ _ _ _ _ _ _ _ _ _ _ _ _ _ _ x0 x1 _ _
      ?_ ?_ ?_ ?_ ?_ ?_ ?_ ?_ ?_ ?_ (fun g => by fin_cases g <;> rfl) (fun g => by fin_cases g <;> rfl) h0 (h1.trans (by simp)))
    all_goals (intro a z; (try simp only [Memref.IsWhole.read_unread]); pointwise; blk_ext [])
  case piece5 =>
    idx_vars x
    pointwise [k0_pay40]
    refine (head2 _ _ _ _ _ _ _ _ _ _ _ _ (2 : Fin 4) x0 x1).trans (head_piece m c t 2 2 _ _ _ _ _ _ _ _ _ _ _ _ _ _ _ _ _ _ x0 x1 _ _
      ?_ ?_ ?_ ?_ ?_ ?_ ?_ ?_ ?_ ?_ (fun g => by fin_cases g <;> rfl) (fun g => by fin_cases g <;> rfl) h0 (h1.trans (by simp)))
    all_goals (intro a z; (try simp only [Memref.IsWhole.read_unread]); pointwise; blk_ext [])
  case piece6 =>
    idx_vars x
    pointwise [k0_pay39]
    refine (head2 _ _ _ _ _ _ _ _ _ _ _ _ (1 : Fin 4) x0 x1).trans (head_piece m c t 2 1 _ _ _ _ _ _ _ _ _ _ _ _ _ _ _ _ _ _ x0 x1 _ _
      ?_ ?_ ?_ ?_ ?_ ?_ ?_ ?_ ?_ ?_ (fun g => by fin_cases g <;> rfl) (fun g => by fin_cases g <;> rfl) h0 (h1.trans (by simp)))
    all_goals (intro a z; (try simp only [Memref.IsWhole.read_unread]); pointwise; blk_ext [])
  case piece7 =>
    idx_vars x
    pointwise [k0_pay38]
    refine (head2 _ _ _ _ _ _ _ _ _ _ _ _ (0 : Fin 4) x0 x1).trans (head_piece m c t 2 0 _ _ _ _ _ _ _ _ _ _ _ _ _ _ _ _ _ _ x0 x1 _ _
      ?_ ?_ ?_ ?_ ?_ ?_ ?_ ?_ ?_ ?_ (fun g => by fin_cases g <;> rfl) (fun g => by fin_cases g <;> rfl) h0 (h1.trans (by simp)))
    all_goals (intro a z; (try simp only [Memref.IsWhole.read_unread]); pointwise; blk_ext [])
  case piece8 =>
    idx_vars x
    pointwise [k0_pay26]
    refine (head1 _ _ _ _ _ _ _ _ _ _ _ _ (3 : Fin 4) x0 x1 _ _).trans (head_piece m c t 1 3 _ _ _ _ _ _ _ _ _ _ _ _ _ _ _ _ _ _ x0 x1 _ _
      ?_ ?_ ?_ ?_ ?_ ?_ ?_ ?_ ?_ ?_ (fun g => by fin_cases g <;> rfl) (fun g => by fin_cases g <;> rfl) h0 (h1.trans (by simp)))
    all_goals (intro a z; (try simp only [Memref.IsWhole.read_unread]); pointwise; blk_ext [])
  case piece9 =>
    idx_vars x
    pointwise [k0_pay24, k0_pay25]
    refine (head1 _ _ _ _ _ _ _ _ _ _ _ _ (2 : Fin 4) x0 x1 _ _).trans (head_piece m c t 1 2 _ _ _ _ _ _ _ _ _ _ _ _ _ _ _ _ _ _ x0 x1 _ _
      ?_ ?_ ?_ ?_ ?_ ?_ ?_ ?_ ?_ ?_ (fun g => by fin_cases g <;> rfl) (fun g => by fin_cases g <;> rfl) h0 (h1.trans (by simp)))
    all_goals (intro a z; (try simp only [Memref.IsWhole.read_unread]); pointwise; blk_ext [])
  case piece10 =>
    idx_vars x
    pointwise [k0_pay23]
    refine (head1 _ _ _ _ _ _ _ _ _ _ _ _ (1 : Fin 4) x0 x1 _ _).trans (head_piece m c t 1 1 _ _ _ _ _ _ _ _ _ _ _ _ _ _ _ _ _ _ x0 x1 _ _
      ?_ ?_ ?_ ?_ ?_ ?_ ?_ ?_ ?_ ?_ (fun g => by fin_cases g <;> rfl) (fun g => by fin_cases g <;> rfl) h0 (h1.trans (by simp)))
    all_goals (intro a z; (try simp only [Memref.IsWhole.read_unread]); pointwise; blk_ext [])
  case piece11 =>
    idx_vars x
    pointwise [k0_pay22]
    refine (head1 _ _ _ _ _ _ _ _ _ _ _ _ (0 : Fin 4) x0 x1 _ _).trans (head_piece m c t 1 0 _ _ _ _ _ _ _ _ _ _ _ _ _ _ _ _ _ _ x0 x1 _ _
      ?_ ?_ ?_ ?_ ?_ ?_ ?_ ?_ ?_ ?_ (fun g => by fin_cases g <;> rfl) (fun g => by fin_cases g <;> rfl) h0 (h1.trans (by simp)))
    all_goals (intro a z; (try simp only [Memref.IsWhole.read_unread]); pointwise; blk_ext [])
  case piece12 =>
    idx_vars x
    pointwise [k0_pay12]
    refine (head0 _ _ _ _ _ _ _ _ _ _ _ _ (3 : Fin 4) x0 x1).trans (head_piece m c t 0 3 _ _ _ _ _ _ _ _ _ _ _ _ _ _ _ _ _ _ x0 x1 _ _
      ?_ ?_ ?_ ?_ ?_ ?_ ?_ ?_ ?_ ?_ (fun g => by fin_cases g <;> rfl) (fun g => by fin_cases g <;> rfl) h0 (h1.trans (by simp)))
    all_goals (intro a z; (try simp only [Memref.IsWhole.read_unread]); pointwise; blk_ext [])
  case piece13 =>
    idx_vars x
    pointwise [k0_pay11]
    refine (head0 _ _ _ _ _ _ _ _ _ _ _ _ (2 : Fin 4) x0 x1).trans (head_piece m c t 0 2 _ _ _ _ _ _ _ _ _ _ _ _ _ _ _ _ _ _ x0 x1 _ _
      ?_ ?_ ?_ ?_ ?_ ?_ ?_ ?_ ?_ ?_ (fun g => by fin_cases g <;> rfl) (fun g => by fin_cases g <;> rfl) h0 (h1.trans (by simp)))
    all_goals (intro a z; (try simp only [Memref.IsWhole.read_unread]); pointwise; blk_ext [])
  case piece14 =>
    idx_vars x
    pointwise [k0_pay10]
    refine (head0 _ _ _ _ _ _ _ _ _ _ _ _ (1 : Fin 4) x0 x1).trans (head_piece m c t 0 1 _ _ _ _ _ _ _ _ _ _ _ _ _ _ _ _ _ _ x0 x1 _ _
      ?_ ?_ ?_ ?_ ?_ ?_ ?_ ?_ ?_ ?_ (fun g => by fin_cases g <;> rfl) (fun g => by fin_cases g <;> rfl) h0 (h1.trans (by simp)))
    all_goals (intro a z; (try simp only [Memref.IsWhole.read_unread]); pointwise; blk_ext [])
  case piece15 =>
    idx_vars x
    pointwise [k0_pay9]
    refine (head0 _ _ _ _ _ _ _ _ _ _ _ _ (0 : Fin 4) x0 x1).trans (head_piece m c t 0 0 _ _ _ _ _ _ _ _ _ _ _ _ _ _ _ _ _ _ x0 x1 _ _
      ?_ ?_ ?_ ?_ ?_ ?_ ?_ ?_ ?_ ?_ (fun g => by fin_cases g <;> rfl) (fun g => by fin_cases g <;> rfl) h0 (h1.trans (by simp)))
    all_goals (intro a z; (try simp only [Memref.IsWhole.read_unread]); pointwise; blk_ext [])

theorem N_eq : cfg0.N = 128 := by decide +kernel

/-- The array the windowed attention leaves: row `i 0` is row `i 0 % 128` of block `i 0 / 128`. -/
def RES (i : S16384x2048.Idx) : EReal :=
  OUT m c ⟨(i 0 : ℕ) / 128, by have h : (i 0 : ℕ) < 16384 := (i 0).isLt; rw [N_eq]; omega⟩ ⟨(i 0 : ℕ) % 128, by omega⟩ (i 1)

theorem OUT_congr (t t' : Fin cfg0.N) (a a' : Fin 128) (e e' : Fin 2048) (ht : t.val = t'.val) (ha : a.val = a'.val)
    (he : e.val = e'.val) : OUT m c t a e = OUT m c t' a' e' := by
  obtain rfl := Fin.ext ht; obtain rfl := Fin.ext ha; obtain rfl := Fin.ext he; rfl

/-- The result array after the run. -/
theorem final : (dats m 0 c).arrAt 9 (cfgs 0).N = RES m c := by
  refine (dats m 0 c).arrAt_eq_of_covers 9 (RES m c) (by decide +kernel) fun t _ y => ?_
  blk_simp
  rw [after0_9, outs_at]
  have hy : (y 0 : ℕ) < 128 := (y 0).isLt
  refine OUT_congr m c _ _ _ _ _ _ ?_ ?_ ?_
  · blk_simp [idx t]; show _ = ((t : ℕ) * 128 + (y 0 : ℕ)) / 128; omega
  · blk_simp [idx t]; show _ = ((t : ℕ) * 128 + (y 0 : ℕ)) % 128; omega
  · blk_simp [idx t] <;> try omega

end Cert.KernelIdeal.Attn

end
-- ==== Proof.RefStages.lean ====
/- The reference attention written as a chain of named stages. -/
module

public import proofs.«01_k».proof.Proof.Gen.ReferenceIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen

/-- The key position of band column `k` of block `n`. -/
def KPOS : IVec S64x384 32 :=
  addi (broadcastInDim S64x384 ![0, 1] bcast_S64x1_S64x384_0_1 (subi (muli (broadcastInDim S64x1 ![0] bcast_S64_S64x1_0 (iotaInDim S64 32 0)) (broadcastInDim S64x1 ![] bcast_S_S64x1 (constantI S_ 32 128#32))) (broadcastInDim S64x1 ![] bcast_S_S64x1 (constantI S_ 32 128#32)))) (broadcastInDim S64x384 ![0, 1] bcast_S1x384_S64x384_0_1 (broadcastInDim S1x384 ![1] bcast_S384_S1x384_1 (iotaInDim S384 32 0)))

/-- The distance from query row to key position. -/
def DIST : IVec S64x128x384 32 :=
  absi (subi (broadcastInDim S64x128x384 ![0, 1, 2] bcast_S64x128x1_S64x128x384_0_1_2 (broadcastInDim S64x128x1 ![0, 1] bcast_S64x128_S64x128x1_0_1 (shapeCast _ (iotaInDim S8192 32 0) shapeCasts_S8192_S64x128))) (broadcastInDim S64x128x384 ![0, 1, 2] bcast_S64x1x384_S64x128x384_0_1_2 (broadcastInDim S64x1x384 ![0, 2] bcast_S64x384_S64x1x384_0_2 KPOS)))

/-- The mask: within 128, and inside the sequence. -/
def MASK : IVec S64x128x384 1 :=
  andi (andi (cmpi .sle DIST (broadcastInDim S64x128x384 ![] bcast_S_S64x128x384 (constantI S_ 32 128#32))) (broadcastInDim S64x128x384 ![0, 1, 2] bcast_S64x1x384_S64x128x384_0_1_2 (broadcastInDim S64x1x384 ![0, 2] bcast_S64x384_S64x1x384_0_2 (cmpi .sge KPOS (broadcastInDim S64x384 ![] bcast_S_S64x384 (constantI S_ 32 0#32)))))) (broadcastInDim S64x128x384 ![0, 1, 2] bcast_S64x1x384_S64x128x384_0_1_2 (broadcastInDim S64x1x384 ![0, 2] bcast_S64x384_S64x1x384_0_2 (cmpi .slt KPOS (broadcastInDim S64x384 ![] bcast_S_S64x384 (constantI S_ 32 8192#32)))))

/-- The sixteen slopes. -/
def SLP : FVec Ideal S16 .f32 :=
  Host.powf (broadcastInDim S16 ![] bcast_S_S16 (constant S_ .f32 0x40000000#32)) (Host.divf (mulf (broadcastInDim S16 ![] bcast_S_S16 (constant S_ .f32 0xC1000000#32)) (addf (sitofp .f32 (iotaInDim S16 32 0)) (broadcastInDim S16 ![] bcast_S_S16 (constant S_ .f32 0x3F800000#32)))) (broadcastInDim S16 ![] bcast_S_S16 (constant S_ .f32 0x41800000#32)))

/-- The projections per sequence. -/
def IN (X : FVec Ideal S16384x17408 .bf16) : FVec Ideal S2x8192x17408 .f32 :=
  shapeCast _ (extf .f32 X bitsLt_bf16_f32) shapeCasts_S16384x17408_S2x8192x17408

/-- The queries by block. -/
def QS (X : FVec Ideal S16384x17408 .bf16) : FVec Ideal S2x64x128x4x4x128 .f32 :=
  shapeCast _ (shapeCast _ (extractStridedSlice S2x8192x2048 ![0, 0, 6144] (IN X) slices_S2x8192x17408_S2x8192x2048_0_0_6144) shapeCasts_S2x8192x2048_S2x8192x16x128) shapeCasts_S2x8192x16x128_S2x64x128x4x4x128

/-- The keys by block, a block of zeros before and after. -/
def PADK (X : FVec Ideal S16384x17408 .bf16) : FVec Ideal S2x66x128x4x128 .f32 :=
  shapeCast _ (pad S2x8448x4x128 ![0, 128, 0, 0] ![0, 128, 0, 0] ![0, 0, 0, 0] (shapeCast _ (extractStridedSlice S2x8192x512 ![0, 0, 8192] (IN X) slices_S2x8192x17408_S2x8192x512_0_0_8192) shapeCasts_S2x8192x512_S2x8192x4x128) (sitofp .f32 (constantI S_ 32 0#32)) pads_S2x8192x4x128_S2x8448x4x128_000_1281280_000_000 h_S_) shapeCasts_S2x8448x4x128_S2x66x128x4x128

/-- The values by block, a block of zeros before and after. -/
def PADV (X : FVec Ideal S16384x17408 .bf16) : FVec Ideal S2x66x128x4x128 .f32 :=
  shapeCast _ (pad S2x8448x4x128 ![0, 128, 0, 0] ![0, 128, 0, 0] ![0, 0, 0, 0] (shapeCast _ (extractStridedSlice S2x8192x512 ![0, 0, 8704] (IN X) slices_S2x8192x17408_S2x8192x512_0_0_8704) shapeCasts_S2x8192x512_S2x8192x4x128) (sitofp .f32 (constantI S_ 32 0#32)) pads_S2x8192x4x128_S2x8448x4x128_000_1281280_000_000 h_S_) shapeCasts_S2x8448x4x128_S2x66x128x4x128

/-- Three neighbouring blocks of keys. -/
def BANDK (X : FVec Ideal S16384x17408 .bf16) : FVec Ideal S2x64x384x4x128 .f32 :=
  concatenate S2x64x384x4x128 2 [⟨S2x64x128x4x128, ((extractStridedSlice S2x64x128x4x128 ![0, 0, 0, 0, 0] (PADK X) slices_S2x66x128x4x128_S2x64x128x4x128_0_0_0_0_0) : (⟨S2x64x128x4x128, .f32⟩ : BufTy).Contents (Elt Ideal))⟩, ⟨S2x64x128x4x128, ((extractStridedSlice S2x64x128x4x128 ![0, 1, 0, 0, 0] (PADK X) slices_S2x66x128x4x128_S2x64x128x4x128_0_1_0_0_0) : (⟨S2x64x128x4x128, .f32⟩ : BufTy).Contents (Elt Ideal))⟩, ⟨S2x64x128x4x128, ((extractStridedSlice S2x64x128x4x128 ![0, 2, 0, 0, 0] (PADK X) slices_S2x66x128x4x128_S2x64x128x4x128_0_2_0_0_0) : (⟨S2x64x128x4x128, .f32⟩ : BufTy).Contents (Elt Ideal))⟩] concatenates_S2x64x128x4x128_S2x64x128x4x128_S2x64x128x4x128_S2x64x384x4x128_d2

/-- Three neighbouring blocks of values. -/
def BANDV (X : FVec Ideal S16384x17408 .bf16) : FVec Ideal S2x64x384x4x128 .f32 :=
  concatenate S2x64x384x4x128 2 [⟨S2x64x128x4x128, ((extractStridedSlice S2x64x128x4x128 ![0, 0, 0, 0, 0] (PADV X) slices_S2x66x128x4x128_S2x64x128x4x128_0_0_0_0_0) : (⟨S2x64x128x4x128, .f32⟩ : BufTy).Contents (Elt Ideal))⟩, ⟨S2x64x128x4x128, ((extractStridedSlice S2x64x128x4x128 ![0, 1, 0, 0, 0] (PADV X) slices_S2x66x128x4x128_S2x64x128x4x128_0_1_0_0_0) : (⟨S2x64x128x4x128, .f32⟩ : BufTy).Contents (Elt Ideal))⟩, ⟨S2x64x128x4x128, ((extractStridedSlice S2x64x128x4x128 ![0, 2, 0, 0, 0] (PADV X) slices_S2x66x128x4x128_S2x64x128x4x128_0_2_0_0_0) : (⟨S2x64x128x4x128, .f32⟩ : BufTy).Contents (Elt Ideal))⟩] concatenates_S2x64x128x4x128_S2x64x128x4x128_S2x64x128x4x128_S2x64x384x4x128_d2

/-- Keys against queries. -/
def DOTS (X : FVec Ideal S16384x17408 .bf16) : FVec Ideal S2x64x4x384x128x4 .f32 :=
  Host.dotGeneral dot_S2x64x384x4x128_S2x64x128x4x4x128_S2x64x4x384x128x4_4_5_2_24_013_013 none (BANDK X) (QS X)

/-- The distance times minus the slope. -/
def BIAS : FVec Ideal S64x4x4x128x384 .f32 :=
  mulf (broadcastInDim S64x4x4x128x384 ![0, 1, 2, 3, 4] bcast_S1x4x4x1x1_S64x4x4x128x384_0_1_2_3_4 (Host.negf (broadcastInDim S1x4x4x1x1 ![1, 2] bcast_S4x4_S1x4x4x1x1_1_2 (shapeCast _ SLP shapeCasts_S16_S4x4)))) (broadcastInDim S64x4x4x128x384 ![0, 1, 2, 3, 4] bcast_S64x1x1x128x384_S64x4x4x128x384_0_1_2_3_4 (broadcastInDim S64x1x1x128x384 ![0, 3, 4] bcast_S64x128x384_S64x1x1x128x384_0_3_4 (sitofp .f32 DIST)))

/-- The masked logits. -/
def LOG (X : FVec Ideal S16384x17408 .bf16) : FVec Ideal S2x64x4x4x128x384 .f32 :=
  select (broadcastInDim S2x64x4x4x128x384 ![1, 2, 3, 4, 5] bcast_S64x1x1x128x384_S2x64x4x4x128x384_1_2_3_4_5 (broadcastInDim S64x1x1x128x384 ![0, 3, 4] bcast_S64x128x384_S64x1x1x128x384_0_3_4 MASK)) (addf (mulf (transpose S2x64x4x4x128x384 [0, 1, 2, 5, 4, 3] (DOTS X) transposes_S2x64x4x384x128x4_S2x64x4x4x128x384_0_1_2_5_4_3) (broadcastInDim S2x64x4x4x128x384 ![] bcast_S_S2x64x4x4x128x384 (Host.divf (constant S_ .f32 0x3F800000#32) (Host.sqrt (constant S_ .f32 0x43000000#32))))) (broadcastInDim S2x64x4x4x128x384 ![0, 1, 2, 3, 4, 5] bcast_S1x64x4x4x128x384_S2x64x4x4x128x384_0_1_2_3_4_5 (broadcastInDim S1x64x4x4x128x384 ![1, 2, 3, 4, 5] bcast_S64x4x4x128x384_S1x64x4x4x128x384_1_2_3_4_5 BIAS))) (broadcastInDim S2x64x4x4x128x384 ![] bcast_S_S2x64x4x4x128x384 (id (constant S_ .f32 0xFF800000#32)))

/-- The logits with the sink behind them. -/
def LGS (X : FVec Ideal S16384x17408 .bf16) (SK : FVec Ideal S16 .f32) : FVec Ideal S2x64x4x4x128x385 .f32 :=
  concatenate S2x64x4x4x128x385 5 [⟨S2x64x4x4x128x384, (LOG X)⟩, ⟨S2x64x4x4x128x1, (broadcastInDim S2x64x4x4x128x1 ![0, 1, 2, 3, 4, 5] bcast_S1x1x4x4x1x1_S2x64x4x4x128x1_0_1_2_3_4_5 (shapeCast _ SK shapeCasts_S16_S1x1x4x4x1x1))⟩] concatenates_S2x64x4x4x128x384_S2x64x4x4x128x1_S2x64x4x4x128x385_d5

/-- The largest logit. -/
def TOP (X : FVec Ideal S16384x17408 .bf16) (SK : FVec Ideal S16 .f32) : FVec Ideal S2x64x4x4x128 .f32 :=
  maximumf (broadcastInDim S2x64x4x4x128 ![] bcast_S_S2x64x4x4x128 (constant S_ .f32 0xFF800000#32)) (Host.reduce FloatOps.maximumf (LGS X SK) (constant S_ .f32 0xFF800000#32) reducesTo_S2x64x4x4x128x385_S2x64x4x4x128_d5 h_S_)

/-- The exponentials. -/
def PE (X : FVec Ideal S16384x17408 .bf16) (SK : FVec Ideal S16 .f32) : FVec Ideal S2x64x4x4x128x385 .f32 :=
  Host.exp (subf (LGS X SK) (broadcastInDim S2x64x4x4x128x385 ![0, 1, 2, 3, 4, 5] bcast_S2x64x4x4x128x1_S2x64x4x4x128x385_0_1_2_3_4_5 (broadcastInDim S2x64x4x4x128x1 ![0, 1, 2, 3, 4] bcast_S2x64x4x4x128_S2x64x4x4x128x1_0_1_2_3_4 (TOP X SK))))

/-- Their sum. -/
def DEN (X : FVec Ideal S16384x17408 .bf16) (SK : FVec Ideal S16 .f32) : FVec Ideal S2x64x4x4x128 .f32 :=
  Host.reduceAdd (PE X SK) (constant S_ .f32 0x00000000#32) reducesTo_S2x64x4x4x128x385_S2x64x4x4x128_d5 h_S_

/-- The weights of the keys. -/
def PR (X : FVec Ideal S16384x17408 .bf16) (SK : FVec Ideal S16 .f32) : FVec Ideal S2x64x4x4x128x384 .f32 :=
  extractStridedSlice S2x64x4x4x128x384 ![0, 0, 0, 0, 0, 0] (Host.divf (PE X SK) (broadcastInDim S2x64x4x4x128x385 ![0, 1, 2, 3, 4, 5] bcast_S2x64x4x4x128x1_S2x64x4x4x128x385_0_1_2_3_4_5 (broadcastInDim S2x64x4x4x128x1 ![0, 1, 2, 3, 4] bcast_S2x64x4x4x128_S2x64x4x4x128x1_0_1_2_3_4 (DEN X SK)))) slices_S2x64x4x4x128x385_S2x64x4x4x128x384_0_0_0_0_0_0

/-- The weighted values. -/
def ATT (X : FVec Ideal S16384x17408 .bf16) (SK : FVec Ideal S16 .f32) : FVec Ideal S2x64x4x128x4x128 .f32 :=
  Host.dotGeneral dot_S2x64x384x4x128_S2x64x4x4x128x384_S2x64x4x128x4x128_2_5_4_34_013_012 none (BANDV X) (PR X SK)

/-- The attention laid out as the result. -/
def ALL (X : FVec Ideal S16384x17408 .bf16) (SK : FVec Ideal S16 .f32) : FVec Ideal S16384x2048 .bf16 :=
  truncf .bf16 (shapeCast _ (shapeCast _ (transpose S2x64x128x4x4x128 [0, 1, 5, 2, 4, 3] (ATT X SK) transposes_S2x64x4x128x4x128_S2x64x128x4x4x128_0_1_5_2_4_3) shapeCasts_S2x64x128x4x4x128_S2x8192x2048) shapeCasts_S2x8192x2048_S16384x2048) bitsLt_bf16_f32

set_option maxHeartbeats 1000000 in
/-- The reference's result is the staged attention of the arguments. -/
theorem res_eq (m : (ℓ : Loc nD τ sig) → Buf (Elt Ideal) ℓ) (c : Dev nD) :
    Value.res_main_v99 m c = ALL (m ((c.tc : Thread nD τ).loc main_arg0)) (m ((c.tc : Thread nD τ).loc main_arg1)) := by
  unfold Value.res_main_v99 ALL ATT PR DEN PE TOP LGS LOG BIAS DOTS BANDV BANDK PADV PADK QS IN SLP MASK DIST KPOS
  rfl

end Cert.ReferenceIdeal.Attn

end
-- ==== Proof.Ref.lean ====
/- Each stage of the reference attention, read at coordinates of the argument arrays. -/
module

public import proofs.«01_k».proof.Proof.RefStages
public import Idealize.ShloMosaic.Lib.KernelVsHost
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen

variable (X : FVec Ideal S16384x17408 .bf16) (SK : FVec Ideal S16 .f32)
variable (b : Fin 2) (n : Fin 64) (h g : Fin 4) (a : Fin 128) (j : Fin 384) (x d : Fin 128)

theorem kpos_at : KPOS (ix2 n j) = BitVec.ofNat 32 n * 128#32 - 128#32 + BitVec.ofNat 32 j := by
  pointwise [KPOS]
  rfl

theorem dist_at : DIST (ix3 n a j) = IntOp.absi (BitVec.ofNat 32 a - (BitVec.ofNat 32 j - 128#32)) := by
  pointwise [DIST]
  rw [kpos_at]
  congr 1
  show BitVec.ofNat 32 (n * 128 + a) - _ = _
  rw [BitVec.ofNat_add, BitVec.ofNat_mul]
  show BitVec.ofNat 32 n * 128#32 + _ - _ = _
  generalize BitVec.ofNat 32 n * 128#32 = u
  generalize BitVec.ofNat 32 a = v
  generalize BitVec.ofNat 32 j = w
  bv_omega

/-- Whether the reference lets row `a` of block `n` see band column `j`. -/
theorem mask_at : MASK (ix3 n a j) = IntOp.andi
      (IntOp.andi (IntOp.cmpi CmpIPredicate.sle (DIST (ix3 n a j)) 128#32)
        (IntOp.cmpi CmpIPredicate.sge (BitVec.ofNat 32 n * 128#32 - 128#32 + BitVec.ofNat 32 j) 0#32))
      (IntOp.cmpi CmpIPredicate.slt (BitVec.ofNat 32 n * 128#32 - 128#32 + BitVec.ofNat 32 j) 8192#32) := by
  pointwise [MASK]
  rw [kpos_at]

theorem slp_at (i : Fin 16) : SLP (ix1 i) = Ideal.pow (Ideal.ofBits FTy.f32 1073741824#32)
      (Ideal.div (Ideal.ofBits FTy.f32 3238002688#32 * ((FloatOps.sitofp FTy.f32 (BitVec.ofNat 32 i) : Ideal .f32) + 1 : EReal))
        (Ideal.ofBits FTy.f32 1098907648#32)) := by
  pointwise [SLP]

theorem qs_at : QS X (ix6 b n a h g x)
    = X (ix2 ⟨b * 8192 + (n * 128 + a), by omega⟩ ⟨6144 + (h * 512 + g * 128 + x), by omega⟩) := by
  pointwise [QS, IN]

/-- A band position inside the sequence holds the array's row there. -/
theorem bandk_at (hj : 128 ≤ (n : ℕ) * 128 + j) (hj' : (n : ℕ) * 128 + j - 128 < 8192) : BANDK X (ix5 b n j h x)
    = X (ix2 ⟨b * 8192 + (n * 128 + j - 128), by omega⟩ ⟨8192 + (h * 128 + x), by omega⟩) := by
  pointwise [BANDK, PADK, IN]
  by_cases h1 : (j : ℕ) < 128
  · rw [dif_pos h1, dif_pos ⟨hj, hj'⟩]
  · rw [dif_neg h1]
    by_cases h2 : (j : ℕ) - 128 < 128
    · rw [dif_pos h2, dif_pos (by omega)]
      exact congrArg X ((ix2_inj ..).2 ⟨Fin.ext (by show _ + _ = _ + _; omega), rfl⟩)
    · rw [dif_neg h2, dif_pos (by omega)]
      exact congrArg X ((ix2_inj ..).2 ⟨Fin.ext (by show _ + _ = _ + _; omega), rfl⟩)

theorem bandv_at (hj : 128 ≤ (n : ℕ) * 128 + j) (hj' : (n : ℕ) * 128 + j - 128 < 8192) : BANDV X (ix5 b n j h x)
    = X (ix2 ⟨b * 8192 + (n * 128 + j - 128), by omega⟩ ⟨8704 + (h * 128 + x), by omega⟩) := by
  pointwise [BANDV, PADV, IN]
  by_cases h1 : (j : ℕ) < 128
  · rw [dif_pos h1, dif_pos ⟨hj, hj'⟩]
  · rw [dif_neg h1]
    by_cases h2 : (j : ℕ) - 128 < 128
    · rw [dif_pos h2, dif_pos (by omega)]
      exact congrArg X ((ix2_inj ..).2 ⟨Fin.ext (by show _ + _ = _ + _; omega), rfl⟩)
    · rw [dif_neg h2, dif_pos (by omega)]
      exact congrArg X ((ix2_inj ..).2 ⟨Fin.ext (by show _ + _ = _ + _; omega), rfl⟩)

theorem dots_at : DOTS X (ix6 b n h j a g) = ∑ x, BANDK X (ix5 b n j h x) * QS X (ix6 b n a h g x) := by
  pointwise [DOTS]

theorem bias_at : BIAS (ix5 n h g a j)
    = -SLP (ix1 ⟨h * 4 + g, by omega⟩) * (FloatOps.sitofp FTy.f32 (DIST (ix3 n a j)) : Ideal .f32) := by
  pointwise [BIAS]

theorem log_at : LOG X (ix6 b n h g a j) = Scalar.select (MASK (ix3 n a j))
      (DOTS X (ix6 b n h j a g) * Ideal.div 1 (Ideal.sqrt (Ideal.ofBits FTy.f32 1124073472#32)) + BIAS (ix5 n h g a j))
      (Ideal.ofBits FTy.f32 4286578688#32) := by
  pointwise [LOG]
  rfl

theorem lgs_at (k : Fin 385) : LGS X SK (ix6 b n h g a k)
    = if h1 : (k : ℕ) < 384 then LOG X (ix6 b n h g a ⟨k, h1⟩) else SK (ix1 ⟨h * 4 + g, by omega⟩) := by
  pointwise [LGS]

theorem reduces : Shape.Reduces S2x64x4x4x128x385 [5] S2x64x4x4x128 := by decide

theorem lift_at (k : Fin 385) : reduces.lift (ix5 b n h g a) k = ix6 b n h g a k := by
  funext i
  apply Fin.ext
  match i with
  | ⟨0, _⟩ => rfl
  | ⟨1, _⟩ => rfl
  | ⟨2, _⟩ => rfl
  | ⟨3, _⟩ => rfl
  | ⟨4, _⟩ => rfl
  | ⟨5, _⟩ => rfl

theorem hostmax_single {s t u : Shape} {a : Fin s.rank} (Y : FVec Ideal s .f32) (h : s.ReducesTo [a] t) (hu : 0 < u.numel)
    (hr : s.Reduces [a] t) (i : t.Idx) :
    Host.reduce FloatOps.maximumf Y (constant (F := Ideal) u .f32 0xFF800000#32) h hu i
      = (Finset.univ : Finset (Fin (s.size a))).fold max (Ideal.ofBits FTy.f32 4286578688#32) (Y ∘ hr.lift i) := by
  have e := congrFun (hostReduce_maximumf_eq_multiReduction (F := Ideal) Y 0xFF800000#32 h hu hr (.inl rfl) rfl) i
  exact e.trans (Ideal.multiReduction_maximumf_single Y 0xFF800000#32 hr (.inl rfl) rfl i)

theorem hostmax_at (Y : FVec Ideal S2x64x4x4x128x385 .f32) :
    Host.reduce FloatOps.maximumf Y (constant (F := Ideal) S_ .f32 0xFF800000#32) reducesTo_S2x64x4x4x128x385_S2x64x4x4x128_d5 h_S_ (ix5 b n h g a)
      = Finset.univ.fold max (Ideal.ofBits FTy.f32 4286578688#32) fun k : Fin 385 => Y (ix6 b n h g a k) := by
  exact (hostmax_single Y _ h_S_ reduces _).trans
    (congrArg (Finset.fold max _ · _) (funext fun k => congrArg Y (lift_at b n h g a k)))

theorem max_at {s : Shape} (A B : FVec Ideal s .f32) (i : s.Idx) : maximumf A B i = max (A i) (B i) := rfl

theorem top0_at (i : S2x64x4x4x128.Idx) : broadcastInDim S2x64x4x4x128 ![] bcast_S_S2x64x4x4x128
    (constant (F := Ideal) S_ .f32 0xFF800000#32) i = Ideal.ofBits FTy.f32 4286578688#32 := rfl

theorem top_at : TOP X SK (ix5 b n h g a) = max (Ideal.ofBits FTy.f32 4286578688#32)
      (Finset.univ.fold max (Ideal.ofBits FTy.f32 4286578688#32) fun k : Fin 385 => LGS X SK (ix6 b n h g a k)) := by
  rw [TOP, max_at, top0_at, hostmax_at]

theorem pe_at (k : Fin 385) : PE X SK (ix6 b n h g a k)
    = Ideal.exp (LGS X SK (ix6 b n h g a k) - TOP X SK (ix5 b n h g a)) := by
  pointwise [PE]

theorem den_at : DEN X SK (ix5 b n h g a) = ∑ k : Fin 385, PE X SK (ix6 b n h g a k) := by
  pointwise [DEN]
  rw [Ideal.hostReduceAdd_single _ reduces]
  exact (zero_add _).trans (Finset.sum_congr rfl fun k _ => congrArg (PE X SK) (lift_at b n h g a k))

theorem pr_at : PR X SK (ix6 b n h g a j)
    = Ideal.div (PE X SK (ix6 b n h g a ⟨j, by omega⟩)) (DEN X SK (ix5 b n h g a)) := by
  pointwise [PR]

theorem att_at : ATT X SK (ix6 b n h d g a) = ∑ j, BANDV X (ix5 b n j h d) * PR X SK (ix6 b n h g a j) := by
  pointwise [ATT]

theorem all_at (R : Fin 16384) (C : Fin 2048) : ALL X SK (ix2 R C)
    = ATT X SK (ix6 ⟨R / 8192, by omega⟩ ⟨R / 128 % 64, by omega⟩ ⟨C / 512, by omega⟩ ⟨C % 128, by omega⟩
        ⟨C / 128 % 4, by omega⟩ ⟨R % 128, by omega⟩) := by
  pointwise [ALL]

end Cert.ReferenceIdeal.Attn

end
-- ==== Proof.Scalar.lean ====
/- The scalar content: one output element of the windowed attention by the kernel's base-2 formula is the reference's
   softmax over the band and the sink, where both see the same keys. -/
module

public import proofs.«01_k».proof.Proof.Head
public import proofs.«01_k».proof.Proof.Ref

@[expose] public section

set_option maxRecDepth 16384

noncomputable section

open Idealize.ShloMosaic Idealize.ShloMosaic.TcCoe Idealize.SL.Sem

namespace Cert.Attn

open Cert.KernelIdeal.Attn (cL cS scoreK topK headK)

/-- `1 / log 2`. -/
def lg : ℝ := (Real.log 2)⁻¹

theorem lg_pos : 0 < lg := inv_pos.2 (Real.log_pos (by norm_num))

theorem cL_eq : cL = (lg : EReal) := by
  simp [cL, Named.named, Cert.KernelIdeal.κ, lg]

theorem cS_eq : cS = ((lg * (Real.sqrt 128)⁻¹ : ℝ) : EReal) := by
  simp [cS, Named.named, Cert.KernelIdeal.κ, lg]

theorem negInf : Ideal.ofBits FTy.f32 4286578688#32 = ⊥ := by
  simp [Ideal.ofBits, Ideal.ieee]

/-- A finite factor goes through a sum of extended reals. -/
theorem sum_mul_real {ι : Type*} (s : Finset ι) (f : ι → EReal) (d : ℝ) (hd : 0 ≤ d) :
    (∑ i ∈ s, f i) * (d : EReal) = ∑ i ∈ s, f i * (d : EReal) := by
  classical
  induction s using Finset.induction_on with
  | empty => simp
  | insert i s hi ih =>
    rw [Finset.sum_insert hi, Finset.sum_insert hi,
      EReal.right_distrib_of_nonneg_of_ne_top (EReal.coe_nonneg.2 hd) (EReal.coe_ne_top d), ih]

theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The reference's logits: the band's, then the sink. -/
def logit (L : Fin 384 → EReal) (sk : EReal) (k : Fin 385) : EReal := if h : (k : ℕ) < 384 then L ⟨k, h⟩ else sk

/-- The largest of them. -/
def topR (L : Fin 384 → EReal) (sk : EReal) : EReal := max ⊥ (Finset.univ.fold max ⊥ (logit L sk))

/-- The reference's output element. -/
def headR (L v : Fin 384 → EReal) (sk : EReal) : EReal :=
  ∑ j, v j * Ideal.div (Ideal.exp (L j - topR L sk)) (∑ k, Ideal.exp (logit L sk k - topR L sk))

theorem fold_sup {ι : Type*} (s : Finset ι) (f : ι → EReal) : s.fold max ⊥ f = s.sup f := rfl

theorem topR_eq (L : Fin 384 → EReal) (sk : EReal) : topR L sk = max (Finset.univ.fold max ⊥ L) sk := by
  unfold topR
  rw [fold_sup, fold_sup, bot_sup_eq]
  apply le_antisymm
  · refine Finset.sup_le fun k _ => ?_
    unfold logit
    split_ifs with h
    · exact le_max_of_le_left (Finset.le_sup (f := L) (Finset.mem_univ _))
    · exact le_max_right _ _
  · refine max_le (Finset.sup_le fun j _ => ?_) ?_
    · refine le_trans (le_of_eq ?_) (Finset.le_sup (f := logit L sk) (Finset.mem_univ (⟨j, by omega⟩ : Fin 385)))
      simp [logit]
    · refine le_trans (le_of_eq ?_) (Finset.le_sup (f := logit L sk) (Finset.mem_univ (⟨384, by omega⟩ : Fin 385)))
      simp [logit]

/-- Logits with a finite one behind them have a finite maximum. -/
theorem top_real (L : Fin 384 → EReal) (k : ℝ) (hL : ∀ j, L j ≠ ⊤) : ∃ t : ℝ, max (Finset.univ.fold max ⊥ L) (k : EReal) = t := by
  have h1 : max (Finset.univ.fold max ⊥ L) (k : EReal) ≠ ⊤ := by
    rw [fold_sup]
    refine ne_of_lt (max_lt ((Finset.sup_lt_iff bot_lt_top).2 fun j _ => lt_top_iff_ne_top.2 (hL j)) (EReal.coe_lt_top k))
  have h2 : max (Finset.univ.fold max ⊥ L) (k : EReal) ≠ ⊥ :=
    ne_of_gt (lt_of_lt_of_le (EReal.bot_lt_coe k) (le_max_right _ _))
  exact ⟨_, (EReal.coe_toReal h1 h2).symm⟩

/-- A positive factor goes through the maximum. -/
theorem top_mul (L : Fin 384 → EReal) (k : EReal) :
    max (Finset.univ.fold max ⊥ fun j => L j * (lg : EReal)) (k * lg) = max (Finset.univ.fold max ⊥ L) k * lg := by
  have hm : Monotone fun x : EReal => x * (lg : EReal) := fun x y hxy =>
    mul_le_mul_of_nonneg_right hxy (EReal.coe_nonneg.2 lg_pos.le)
  have hb : (⊥ : EReal) * (lg : EReal) = ⊥ := EReal.bot_mul_coe_of_pos lg_pos
  rw [fold_sup, fold_sup]
  have h1 := Finset.comp_sup_eq_sup_comp (s := Finset.univ) (f := L) (fun x : EReal => x * (lg : EReal))
    (fun x y => hm.map_sup x y) hb
  have h2 := hm.map_sup (Finset.univ.sup L) k
  exact ((h2.trans (congrArg (max · (k * (lg : EReal))) h1))).symm

theorem exp2_lg (x : ℝ) : Ideal.exp2 ((x * lg : ℝ) : EReal) = (Real.exp x : EReal) := by
  show ((Real.rpow 2 (x * lg) : ℝ) : EReal) = _
  congr 1
  show (2 : ℝ) ^ (x * lg) = _
  rw [Real.rpow_def_of_pos (by norm_num)]
  congr 1
  have : Real.log 2 ≠ 0 := (Real.log_pos (by norm_num)).ne'
  unfold lg
  field_simp

/-- THE SCALAR EQUALITY. The keys a row sees (`M`) have finite logits; the others carry distance `⊤` in the kernel and
    logit `⊥` in the reference, so their weights are zero on both sides. -/
theorem head_eq (M : Fin 384 → Prop) [DecidablePred M] (dot dist v v' L : Fin 384 → EReal) (sl sk : EReal)
    (s k : ℝ) (r D : Fin 384 → ℝ) (hs : 0 < s) (hsl : sl = s) (hsk : sk = k)
    (hd : ∀ j, M j → dot j = r j) (hD : ∀ j, M j → dist j = D j) (hD' : ∀ j, ¬ M j → dist j = ⊤)
    (hv : ∀ j, M j → v j = v' j)
    (hL : ∀ j, M j → L j = ((r j * (Real.sqrt 128)⁻¹ - s * D j : ℝ) : EReal)) (hL' : ∀ j, ¬ M j → L j = ⊥) :
    headK dot dist v sl sk = headR L v' sk := by
  subst hsl hsk
  have hscore : ∀ j, scoreK (dot j) (dist j) s = L j * (lg : EReal) := by
    intro j
    unfold scoreK
    rw [cL_eq, cS_eq]
    by_cases hj : M j
    · rw [hd j hj, hD j hj, hL j hj]
      norm_cast
      ring_nf
    · rw [hD' j hj, hL' j hj, ← EReal.coe_mul, EReal.coe_mul_top_of_pos (mul_pos hs lg_pos), EReal.sub_top,
        EReal.bot_mul_coe_of_pos lg_pos]
  have hLtop : ∀ j, L j ≠ ⊤ := by
    intro j
    by_cases hj : M j
    · rw [hL j hj]; exact EReal.coe_ne_top _
    · rw [hL' j hj]; exact bot_ne_top
  obtain ⟨t, ht⟩ := top_real L k hLtop
  have htK : topK dot dist s k = ((t * lg : ℝ) : EReal) := by
    unfold topK
    rw [negInf, cL_eq]
    simp only [hscore]
    rw [top_mul, ht, ← EReal.coe_mul]
  have htR : topR L k = t := by rw [topR_eq, ht]
  let e : Fin 384 → ℝ := fun j => if M j then Real.exp (r j * (Real.sqrt 128)⁻¹ - s * D j - t) else 0
  have he : ∀ j, 0 ≤ e j := fun j => by
    show 0 ≤ (if M j then _ else _)
    split_ifs
    · exact (Real.exp_pos _).le
    · exact le_rfl
  have heK : ∀ j, FloatOps.exp2 (F := Ideal) (φ := .f32) (scoreK (dot j) (dist j) s - topK dot dist s k) = (e j : EReal) := by
    intro j
    show Ideal.exp2 _ = _
    rw [hscore, htK]
    by_cases hj : M j
    · have : e j = Real.exp (r j * (Real.sqrt 128)⁻¹ - s * D j - t) := if_pos hj
      rw [this, ← exp2_lg, hL j hj]
      congr 1
      norm_cast
      ring_nf
    · have : e j = 0 := if_neg hj
      rw [this, hL' j hj, EReal.bot_mul_coe_of_pos lg_pos, EReal.bot_sub]
      rfl
  have hkK : FloatOps.exp2 (F := Ideal) (φ := .f32) ((k : EReal) * cL - topK dot dist s k) = (Real.exp (k - t) : EReal) := by
    show Ideal.exp2 _ = _
    rw [htK, cL_eq, ← exp2_lg]
    congr 1
    norm_cast
    ring_nf
  have heR : ∀ j, Ideal.exp (L j - topR L k) = (e j : EReal) := by
    intro j
    rw [htR]
    by_cases hj : M j
    · have : e j = Real.exp (r j * (Real.sqrt 128)⁻¹ - s * D j - t) := if_pos hj
      rw [this, hL j hj, ← EReal.coe_sub]
      rfl
    · have : e j = 0 := if_neg hj
      rw [this, hL' j hj, EReal.bot_sub]
      rfl
  have hden : ∑ q, Ideal.exp (logit L k q - topR L k) = ((∑ j, e j + Real.exp (k - t) : ℝ) : EReal) := by
    rw [Fin.sum_univ_castSucc (n := 384), EReal.coe_add, coe_sum]
    congr 1
    · refine Finset.sum_congr rfl fun j _ => ?_
      rw [← heR j]
      congr 2
      simp [logit]
    · have : logit L k (Fin.last 384) = k := by simp [logit]
      rw [this, htR, ← EReal.coe_sub]
      rfl
  have hpos : 0 < ∑ j, e j + Real.exp (k - t) := add_pos_of_nonneg_of_pos (Finset.sum_nonneg fun j _ => he j) (Real.exp_pos _)
  unfold headK headR
  rw [hden]
  simp only [heK, hkK, heR]
  rw [← coe_sum, ← EReal.coe_add, Ideal.div_coe hpos.ne', sum_mul_real _ _ _ (one_div_pos.2 hpos).le]
  refine Finset.sum_congr rfl fun j _ => ?_
  rw [Ideal.div_coe hpos.ne']
  by_cases hj : M j
  · rw [hv j hj, mul_comm ((e j : ℝ) : EReal) (v' j), mul_assoc]
  · have : e j = 0 := if_neg hj
    rw [this]
    simp

end Cert.Attn

end
-- ==== Proof.Final.lean ====
/- The windowed attention's two results are one array: each element of the kernel's blocks is the reference's. -/
module

public import proofs.«01_k».proof.Proof.Point
public import proofs.«01_k».proof.Proof.Scalar
public import proofs.«01_k».proof.Proof.Gen.Pre_finite_inputs
public import Idealize.ShloMosaic.Lib.Claim
public import Idealize.ShloMosaic.Lib.ReduceAll

@[expose] public section

set_option maxRecDepth 16384

noncomputable section

open Idealize.ShloMosaic Idealize.ShloMosaic.TcCoe Idealize.SL.Sem

namespace Cert.Attn

open Cert.ReferenceIdeal.Attn
open Cert.KernelIdeal (nD τ sig main_arg0 main_arg1 main_v8 κ cfg0)
open Cert.KernelIdeal.Gen Cert.KernelIdeal.Attn

/-! ## The precondition -/

theorem real_of_lt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

theorem andi_one : ∀ a b : BitVec 1, IntOp.andi a b = 1#1 → a = 1#1 ∧ b = 1#1 := by decide

instance : Subsingleton Cert.Pre_finite_inputs.S_.Idx := ⟨fun a b => funext fun i => i.elim0⟩

/-- The precondition read back: the queries and keys are finite, and so are the sinks. -/
theorem finite_of_pre [Cert.Pre_finite_inputs.Facts] (X : FVec Ideal Cert.Pre_finite_inputs.S16384x17408 .bf16)
    (SK : FVec Ideal Cert.Pre_finite_inputs.S16 .f32) (h : Cert.Pre_finite_inputs.fn X SK = fun _ => 1#1) :
    (∀ (R : Fin 16384) (C : Fin 17408), 6144 ≤ (C : ℕ) → (C : ℕ) < 8704 → ∃ r : ℝ, X (ix2 R C) = (r : EReal))
      ∧ ∀ i : Fin 16, ∃ r : ℝ, SK (ix1 i) = (r : EReal) := by
  obtain ⟨e1, e2⟩ := andi_one _ _ (congrFun h ix0)
  constructor
  · intro R C h1 h2
    have e := Host.reduce_andi_all _ _ _ _ _ e1 (ix2 R (⟨(C : ℕ) - 6144, by omega⟩ : Fin 2560))
    refine real_of_lt _ ?_
    refine Eq.trans ?_ e
    pointwise
    refine congrArg (fun x => Ideal.cmp .olt (max x (-x)) _) (congrArg X ((ix2_inj ..).2 ⟨rfl, Fin.ext ?_⟩))
    show (C : ℕ) = 6144 + ((C : ℕ) - 6144)
    omega
  · intro i
    have e := Host.reduce_andi_all _ _ _ _ _ e2 (ix1 i)
    exact real_of_lt _ e

theorem select_one {α : Type} {w : BitVec 1} (h : w = 1#1) (x y : α) : Scalar.select w x y = x := if_pos h

theorem select_not_one {α : Type} {w : BitVec 1} (h : ¬ w = 1#1) (x y : α) : Scalar.select w x y = y := if_neg h

/-! ## The mask, the distance, the slope -/

theorem coords_at : ∀ t : Fin cfg0.N, (Cert.KernelIdeal.grid0.coords t 1).val = t.val % 64 :=
  (by decide +kernel : ∀ t : Fin Cert.KernelIdeal.grid0.N, _)

/-- The kernel tests the band column and the block's number where the reference tests the key's position; and a
    position both accept lies in the sequence. -/
theorem bits_at : ∀ (n : Fin 64) (j : Fin 384),
    IntOp.cmpi CmpIPredicate.sge (BitVec.ofNat 32 n * 128#32 - 128#32 + BitVec.ofNat 32 j) 0#32
      = IntOp.ori (IntOp.cmpi CmpIPredicate.sge (IntOp.subi (BitVec.ofNat 32 j) 128#32) 0#32)
          (Scalar.cmpi CmpIPredicate.sgt (BitVec.ofNat 32 n) 0#32)
    ∧ IntOp.cmpi CmpIPredicate.slt (BitVec.ofNat 32 n * 128#32 - 128#32 + BitVec.ofNat 32 j) 8192#32
      = IntOp.ori (IntOp.cmpi CmpIPredicate.slt (IntOp.subi (BitVec.ofNat 32 j) 128#32) 128#32)
          (Scalar.cmpi CmpIPredicate.slt (BitVec.ofNat 32 n) 63#32)
    ∧ (IntOp.cmpi CmpIPredicate.sge (BitVec.ofNat 32 n * 128#32 - 128#32 + BitVec.ofNat 32 j) 0#32 = 1#1 →
        IntOp.cmpi CmpIPredicate.slt (BitVec.ofNat 32 n * 128#32 - 128#32 + BitVec.ofNat 32 j) 8192#32 = 1#1 →
        128 ≤ (n : ℕ) * 128 + j ∧ (n : ℕ) * 128 + j - 128 < 8192) := by
  decide +kernel

/-- A key the mask lets through lies in the sequence. -/
theorem inside_of_mask (n : Fin 64) (a : Fin 128) (j : Fin 384) (h : MASK (ix3 n a j) = 1#1) :
    128 ≤ (n : ℕ) * 128 + j ∧ (n : ℕ) * 128 + j - 128 < 8192 := by
  rw [mask_at] at h
  obtain ⟨h1, h2⟩ := andi_one _ _ h
  exact (bits_at n j).2.2 (andi_one _ _ h1).2 h2

/-- The kernel's distance: the reference's where its mask holds, `⊤` elsewhere. -/
theorem pay1_at (t : Fin cfg0.N) (n : Fin 64) (hn : t.val % 64 = n) (a : Fin 128) (j : Fin 384) :
    k0_pay1 (F := Ideal) (Cert.KernelIdeal.grid0.coords t) (ix3 0 a j)
      = Scalar.select (MASK (ix3 n a j)) ((FloatOps.sitofp FTy.f32 (DIST (ix3 n a j)) : Ideal .f32) : EReal) ⊤ := by
  rw [mask_at, (bits_at n j).1, (bits_at n j).2.1, dist_at]
  pointwise [k0_pay1]
  rw [coords_at, hn]
  have : Named.named (F := Ideal) (φ := .f32) κ "masked_dist" 1967780554#32 = (⊤ : EReal) := by
    simp [Named.named, κ]
  rw [this]
  rfl

theorem sitofp_real {w : ℕ} (x : BitVec w) : (FloatOps.sitofp FTy.f32 x : Ideal .f32) = ((x.toInt : ℝ) : EReal) := rfl

theorem slope_real (i : Fin 16) : ∃ s : ℝ, 0 < s ∧ SLP (ix1 i) = (s : EReal) := by
  rw [slp_at, sitofp_real]
  have h2 : Ideal.ofBits FTy.f32 1073741824#32 = ((2 : ℝ) : EReal) := by
    simp [Ideal.ofBits, Ideal.ieee]; norm_cast; try norm_num
  have h8 : Ideal.ofBits FTy.f32 3238002688#32 = ((-8 : ℝ) : EReal) := by
    simp [Ideal.ofBits, Ideal.ieee]; norm_cast; try norm_num
  have h16 : Ideal.ofBits FTy.f32 1098907648#32 = ((16 : ℝ) : EReal) := by
    simp [Ideal.ofBits, Ideal.ieee]; norm_cast; try norm_num
  rw [h2, h8, h16, Ideal.div_coe (by norm_num)]
  refine ⟨(2 : ℝ) ^ (-8 * (((BitVec.ofNat 32 i).toInt : ℝ) + 1) * (1 / 16)), Real.rpow_pos_of_pos (by norm_num) _, ?_⟩
  have : ((-8 : ℝ) : EReal) * (((BitVec.ofNat 32 i).toInt : ℝ) + 1) * ((1 / 16 : ℝ) : EReal)
      = ((-8 * (((BitVec.ofNat 32 i).toInt : ℝ) + 1) * (1 / 16) : ℝ) : EReal) := by norm_cast
  rw [this]
  rfl

theorem scale_real : Ideal.div 1 (Ideal.sqrt (Ideal.ofBits FTy.f32 1124073472#32)) = (((Real.sqrt 128)⁻¹ : ℝ) : EReal) := by
  have h : Ideal.ofBits FTy.f32 1124073472#32 = ((128 : ℝ) : EReal) := by
    simp [Ideal.ofBits, Ideal.ieee]; norm_cast; try norm_num
  rw [h]
  have : Ideal.sqrt ((128 : ℝ) : EReal) = ((Real.sqrt 128 : ℝ) : EReal) := if_neg (by norm_num)
  rw [this, Ideal.div_coe (Real.sqrt_pos.2 (by norm_num)).ne', one_mul, one_div]

/-! ## The reference's element -/

theorem ref_head (X : FVec Ideal Cert.ReferenceIdeal.S16384x17408 .bf16) (SK : FVec Ideal Cert.ReferenceIdeal.S16 .f32)
    (b : Fin 2) (n : Fin 64) (h g : Fin 4) (a d : Fin 128) :
    ATT X SK (ix6 b n h d g a)
      = headR (fun j => LOG X (ix6 b n h g a j)) (fun j => BANDV X (ix5 b n j h d)) (SK (ix1 ⟨h * 4 + g, by omega⟩)) := by
  have hl : ∀ k, LGS X SK (ix6 b n h g a k)
      = logit (fun j => LOG X (ix6 b n h g a j)) (SK (ix1 ⟨h * 4 + g, by omega⟩)) k := fun k => lgs_at X SK b n h g a k
  have ht : TOP X SK (ix5 b n h g a)
      = topR (fun j => LOG X (ix6 b n h g a j)) (SK (ix1 ⟨h * 4 + g, by omega⟩)) := by
    rw [top_at, negInf]
    simp only [hl]
    rfl
  rw [att_at]
  unfold headR
  refine Finset.sum_congr rfl fun j _ => ?_
  rw [pr_at, den_at]
  simp only [pe_at, hl, ht]
  have : logit (fun j => LOG X (ix6 b n h g a j)) (SK (ix1 ⟨h * 4 + g, by omega⟩)) ⟨j, by omega⟩ = LOG X (ix6 b n h g a j) := by
    simp [logit]
  rw [this]

/-! ## The two results -/

section
variable (m : (ℓ : Loc nD τ sig) → Buf (Elt Ideal) ℓ) (c : Dev nD)

theorem sl_val (i : Fin 16) : SL m c (ix1 i) = SLP (ix1 i) := by
  rw [slp_at]
  show V m c main_v8 (ix1 i) = _
  entry_read
  pointwise

theorem out_eq (hX : ∀ (R : Fin 16384) (C : Fin 17408), 6144 ≤ (C : ℕ) → (C : ℕ) < 8704 → ∃ r : ℝ, X m c (ix2 R C) = (r : EReal))
    (hK : ∀ i : Fin 16, ∃ r : ℝ, SK m c (ix1 i) = (r : EReal))
    (t : Fin cfg0.N) (b : Fin 2) (n : Fin 64) (h g : Fin 4) (a d : Fin 128) (e : Fin 2048)
    (ht : t.val = b * 64 + n) (he : (e : ℕ) = h * 512 + g * 128 + d) :
    OUT m c t a e = ATT (X m c) (SK m c) (ix6 b n h d g a) := by
  have hn : t.val % 64 = n := by omega
  have hrow : ∀ j : Fin 384, 128 ≤ (n : ℕ) * 128 + j → (n : ℕ) * 128 + j - 128 < 8192 →
      bandRow t.val j = b * 8192 + (n * 128 + j - 128) := by
    intro j h1 h2
    unfold bandRow
    split_ifs <;> omega
  obtain ⟨s, hs, hsl⟩ := slope_real ⟨(e : ℕ) / 128, by omega⟩
  obtain ⟨k, hk⟩ := hK ⟨(e : ℕ) / 128, by omega⟩
  have hi : (⟨h * 4 + g, by omega⟩ : Fin 16) = ⟨(e : ℕ) / 128, by omega⟩ := Fin.ext (by show (h : ℕ) * 4 + g = e / 128; omega)
  choose! f hf using hX
  have hdot : ∀ j : Fin 384, (∑ x : Fin 128, X m c (ix2 ⟨t.val * 128 + a, by have := t_lt t; omega⟩ ⟨6144 + e / 128 * 128 + x, by omega⟩)
      * X m c (ix2 ⟨bandRow t.val j, bandRow_lt (t_lt t) j.isLt⟩ ⟨8192 + e / 512 * 128 + x, by omega⟩) : EReal)
      = ((∑ x : Fin 128, f ⟨t.val * 128 + a, by have := t_lt t; omega⟩ ⟨6144 + e / 128 * 128 + x, by omega⟩
          * f ⟨bandRow t.val j, bandRow_lt (t_lt t) j.isLt⟩ ⟨8192 + e / 512 * 128 + x, by omega⟩ : ℝ) : EReal) := by
    intro j
    rw [coe_sum]
    refine Finset.sum_congr rfl fun x _ => ?_
    rw [hf _ _ (by show 6144 ≤ 6144 + (e : ℕ) / 128 * 128 + x; omega) (by show 6144 + (e : ℕ) / 128 * 128 + x < 8704; omega),
      hf _ _ (by show 6144 ≤ 8192 + (e : ℕ) / 512 * 128 + x; omega) (by show 8192 + (e : ℕ) / 512 * 128 + x < 8704; omega),
      EReal.coe_mul]
  have hdots : ∀ j : Fin 384, MASK (ix3 n a j) = 1#1 → DOTS (X m c) (ix6 b n h j a g)
      = ∑ x : Fin 128, X m c (ix2 ⟨t.val * 128 + a, by have := t_lt t; omega⟩ ⟨6144 + e / 128 * 128 + x, by omega⟩)
        * X m c (ix2 ⟨bandRow t.val j, bandRow_lt (t_lt t) j.isLt⟩ ⟨8192 + e / 512 * 128 + x, by omega⟩) := by
    intro j hj
    obtain ⟨h1, h2⟩ := inside_of_mask n a j hj
    rw [dots_at]
    refine Finset.sum_congr rfl fun x _ => ?_
    rw [bandk_at _ _ _ _ _ _ h1 h2, qs_at]
    refine (mul_comm (_ : EReal) _).trans (Ideal.mul_congr (congrArg (X m c) ((ix2_inj ..).2 ⟨Fin.ext ?_, Fin.ext ?_⟩))
      (congrArg (X m c) ((ix2_inj ..).2 ⟨Fin.ext ?_, Fin.ext ?_⟩)))
    · show (b : ℕ) * 8192 + (n * 128 + a) = t.val * 128 + a; omega
    · show 6144 + ((h : ℕ) * 512 + g * 128 + x) = 6144 + e / 128 * 128 + x; omega
    · exact (hrow j h1 h2).symm
    · show 8192 + ((h : ℕ) * 128 + x) = 8192 + e / 512 * 128 + x; omega
  rw [ref_head, hi]
  refine head_eq (fun j => MASK (ix3 n a j) = 1#1) _ _ _ _ _ _ _ s k
    (fun j => ∑ x : Fin 128, f ⟨t.val * 128 + a, by have := t_lt t; omega⟩ ⟨6144 + e / 128 * 128 + x, by omega⟩
          * f ⟨bandRow t.val j, bandRow_lt (t_lt t) j.isLt⟩ ⟨8192 + e / 512 * 128 + x, by omega⟩)
    (fun j => ((DIST (ix3 n a j)).toInt : ℝ)) hs ((sl_val m c _).trans hsl) hk (fun j _ => hdot j) (fun j hj => ?_)
    (fun j hj => ?_) (fun j hj => ?_) (fun j hj => ?_) (fun j hj => ?_)
  · rw [pay1_at t n hn, select_one hj, sitofp_real]
  · rw [pay1_at t n hn, select_not_one hj]
  · obtain ⟨h1, h2⟩ := inside_of_mask n a j hj
    show X m c _ = BANDV (X m c) _
    rw [bandv_at _ _ _ _ _ _ h1 h2]
    refine congrArg (X m c) ((ix2_inj ..).2 ⟨Fin.ext (hrow j h1 h2), Fin.ext ?_⟩)
    show 8704 + (e : ℕ) / 512 * 128 + e % 128 = 8704 + (h * 128 + d)
    omega
  · rw [log_at, select_one hj, hdots j hj, hdot j, scale_real, bias_at, hi, hsl, sitofp_real,
      ← EReal.coe_mul, ← EReal.coe_neg, ← EReal.coe_mul, ← EReal.coe_add, neg_mul, ← sub_eq_add_neg]
  · rw [log_at, select_not_one hj, negInf]

/-- THE VALUE: what the kernel leaves is what the reference computes. -/
theorem value [Cert.Pre_finite_inputs.Facts] (h : Cert.Pre_finite_inputs.fn (X m c) (SK m c) = fun _ => 1#1) :
    RES m c = ALL (X m c) (SK m c) := by
  obtain ⟨hX, hK⟩ := finite_of_pre _ _ h
  funext i
  idx_vars i
  rw [all_at]
  refine out_eq m c hX hK _ _ _ _ _ _ _ _ ?_ ?_
  · show (i0 : ℕ) / 128 = i0 / 8192 * 64 + i0 / 128 % 64; omega
  · show (i1 : ℕ) = i1 / 512 * 512 + i1 / 128 % 4 * 128 + i1 % 128; omega

end

end Cert.Attn

end
-- ==== Proof.InprojRun.lean ====
/- The input projection's kernel run once, case by case of its conditionals. -/
module

public import proofs.«01_k».proof.Proof.Gen.Kernel2Ideal.Skeleton
public import proofs.«01_k».proof.Proof.Gen.Kernel2Ideal.Launch
public import proofs.«01_k».proof.Proof.Gen.Kernel2Ideal.Points
public import Idealize.ShloMosaic.Lib.Pipeline.Frame
public import Idealize.ShloMosaic.Lib.Tactic
public import Idealize.ShloMosaic.Lib.Transfers
public import Idealize.ShloMosaic.Lib.Ring
public import Idealize.ShloMosaic.Lib.VecWindow

@[expose] public section

set_option maxRecDepth 16384

noncomputable section

namespace Cert.Kernel2Ideal.Inproj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-- The weights, left in HBM, and the two scratch buffers: the arriving columns and their bf16 cast. -/
abbrev hbM : Memref sig .tc .hbm S4096x17408 .f32 := Memref.whole main_arg1
abbrev scM : Memref sig .tc .vmem S4096x1024 .f32 := Memref.whole cc0_scratch0
abbrev scB : Memref sig .tc .vmem S4096x1024 .bf16 := Memref.whole cc0_scratch1
abbrev hbPt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The weights' columns at offset `o`: what a transfer from there brings. -/
abbrev src (o : Fin 2 → ℕ) (h : ∀ a, o a + S4096x1024.size a ≤ S4096x17408.size a) : Memref sig .tc .hbm S4096x1024 .f32 :=
  hbM.slice (Rect.unit (s := S4096x17408) o S4096x1024.size h) (fun _ => rfl)
def tile (c : Dev nD) (fw : Buf (Elt F) (hbM.view.loc (c : Thread nD τ))) (o : Fin 2 → ℕ) (h : ∀ a, o a + S4096x1024.size a ≤ S4096x17408.size a) :
    Vec F S4096x1024 .f32 :=
  (src o h).view.read (Elt F) fw
/-- The transfer of those columns in flight: when it lands the scratch holds them and the lent columns come back. -/
def flight (c : Dev nD) (fw : Buf (Elt F) (hbM.view.loc (c : Thread nD τ))) (o : Fin 2 → ℕ) (h : ∀ a, o a + S4096x1024.size a ≤ S4096x17408.size a) : sProp 𝕄 :=
  Transfers.Flight countersEmb (c : Thread nD τ) (SemLoc.dma ⟨4, by decide⟩) default 524288
    iprop((scM.view.loc (c : Thread nD τ) ↦[scM.view.set]{fullShare} (Memref.isWhole_whole cc0_scratch0 : scM.IsWhole).unread (tile c fw o h))
      ∗ (hbM.view.loc (c : Thread nD τ) ↦[(src o h).view.set]{fullShare} fw))
/-- The rest of the weights, kept while the transfer is in flight. -/
def rest (c : Dev nD) (fw : Buf (Elt F) (hbM.view.loc (c : Thread nD τ))) (o : Fin 2 → ℕ) (h : ∀ a, o a + S4096x1024.size a ≤ S4096x17408.size a) : sProp 𝕄 :=
  hbM.view.loc (c : Thread nD τ) ↦[Finset.univ \ (src o h).view.set]{fullShare} fw

/-- A buffer written whole reads as what was written. -/
theorem read_whole {sp : Space} {S : Shape} {e : EltTy} (v : View sig .tc sp S e) (f : v.ty.Contents (Elt F)) (x : S.Idx → Elt F e)
    (L : List (View.Piece (Elt F) S e)) : v.read (Elt F) (v.writes (Elt F) f (⟨Rect.whole S, x⟩ :: L)) = x := by
  funext y
  exact View.read_writes_cons_hit_of_coords v f (Rect.whole S) x L y y fun a => by simp [Rect.whole]

theorem landed (fs : scM.view.ty.Contents (Elt F)) (x : Vec F S4096x1024 .f32) (L : List (View.Piece (Elt F) S4096x1024 .f32)) :
    scM.view.writes (Elt F) fs (⟨Rect.whole S4096x1024, x⟩ :: L) = (Memref.isWhole_whole cc0_scratch0 : scM.IsWhole).unread x :=
  Memref.IsWhole.eq_unread _ (read_whole scM.view fs x L)

/-- A transfer just started delivers that. -/
theorem takeoff (c : Dev nD) (fw : Buf (Elt F) (hbM.view.loc (c : Thread nD τ))) (o : Fin 2 → ℕ) (h : ∀ a, o a + S4096x1024.size a ≤ S4096x17408.size a)
    (fs : scM.view.ty.Contents (Elt F)) (x : Vec F S4096x1024 .f32) (L : List (View.Piece (Elt F) S4096x1024 .f32)) (hx : x = tile c fw o h) :
    (Transfers.Flight countersEmb (c : Thread nD τ) (SemLoc.dma ⟨4, by decide⟩) default 524288
      iprop((scM.view.loc (c : Thread nD τ) ↦[scM.view.set]{fullShare} scM.view.writes (Elt F) fs (⟨Rect.whole S4096x1024, x⟩ :: L))
        ∗ (hbM.view.loc (c : Thread nD τ) ↦[(src o h).view.set]{fullShare} fw)) : sProp 𝕄) ⊢ flight c fw o h := by
  subst hx
  rw [landed]
  exact .rfl

/-- A buffer a transfer filled reads as what the transfer brought. -/
theorem filled (v : View sig .tc .vmem S4096x1024 .f32) (x : Vec F S4096x1024 .f32)
    (h : ∀ a, (![0, 0] : Fin 2 → ℕ) a + S4096x1024.size a ≤ S4096x1024.size a) :
    v.readCov [(⟨Rect.whole S4096x1024, x⟩ : View.Piece (Elt F) S4096x1024 .f32)]
      (Rect.unit (s := S4096x1024) ![0, 0] S4096x1024.size h).toLoadRect = x :=
  (View.readAt_full (Val := Elt F) v (v.writes (Elt F) v.junk [⟨Rect.whole S4096x1024, x⟩]) h).trans (read_whole v v.junk x [])

theorem flight_eq (c : Dev nD) (fw : Buf (Elt F) (hbM.view.loc (c : Thread nD τ))) (o : Fin 2 → ℕ) (h : ∀ a, o a + S4096x1024.size a ≤ S4096x17408.size a) :
    (flight c fw o h : sProp 𝕄) = Transfers.Flight countersEmb (c : Thread nD τ) (SemLoc.dma ⟨4, by decide⟩) default 524288
      iprop((scM.view.loc (c : Thread nD τ) ↦[scM.view.set]{fullShare} (Memref.isWhole_whole cc0_scratch0 : scM.IsWhole).unread (tile c fw o h))
        ∗ (hbM.view.loc (c : Thread nD τ) ↦[(src o h).view.set]{fullShare} fw)) := rfl

theorem rest_eq (c : Dev nD) (fw : Buf (Elt F) (hbM.view.loc (c : Thread nD τ))) (o : Fin 2 → ℕ) (h : ∀ a, o a + S4096x1024.size a ≤ S4096x17408.size a) :
    (rest c fw o h : sProp 𝕄) = (hbM.view.loc (c : Thread nD τ) ↦[Finset.univ \ (src o h).view.set]{fullShare} fw) := rfl

/-- A point that is not the first of its block of columns. -/
theorem runD (c : Dev nD) (i : grid0.Coords) (arg2 : Memref sig .tc .vmem S1024x4096 .bf16) (harg2 : arg2.IsWhole)
    (arg4 : Memref sig .tc .vmem S1024x1024 .bf16) (harg4 : arg4.IsWhole)
    (h1 : ¬k0_cond1 i = 1#1)
    (x0 : Vec F S1024x4096 .bf16) (b : Vec F S4096x1024 .bf16) (K : PUnit → sProp 𝕄) :
    iprop(owns (c : Thread nD τ) arg2 fullShare x0 ∗ (∃ d, owns (c : Thread nD τ) arg4 fullShare d)
        ∗ owns (c : Thread nD τ) scB fullShare b

        ∗ (iprop(owns (c : Thread nD τ) arg2 fullShare x0 ∗ owns (c : Thread nD τ) arg4 fullShare (k0_pay2 i x0 b) ∗ owns (c : Thread nD τ) scB fullShare b) -∗ K ⟨⟩))
      ⊢ wp frame (wpE (defs₀ (F := F)) Variants.none c none) Set.univ
          (cc0_inproj i arg2 harg2 hbM (Memref.isWhole_whole _) arg4 harg4 scM (Memref.isWhole_whole _) scB (Memref.isWhole_whole _) cc0_scratch2) K := by
  simp only [cc0_inproj_eq_skeleton]; unfold cc0_inproj_skel
  unfold owns
  iintro ⟨⟨%f0, %hf0, H0⟩, ⟨%d1, %f1, -, H1⟩, ⟨%fb, %hfb, HB⟩, Hk⟩
  obtain rfl := harg2.eq_unread hf0
  obtain rfl := (Memref.isWhole_whole cc0_scratch1 : scB.IsWhole).eq_unread hfb
  sl_exec (disch := first | sl_exact h1)
  sl_step
  iapply Hk
  isplitl [H0]
  · iexists _; isplitr; · ipureintro; exact harg2.read_unread _
    iexact H0
  isplitl [H1]
  · iexists _; isplitr
    swap; · iexact H1
    ipureintro
    refine (View.read_writes_full _ _ _ _ _).trans ?_
    exact congrArg₂ (k0_pay2 i) ((View.readAt_full arg2.view _ _).trans (harg2.read_unread _)) ((View.readAt_full scB.view _ _).trans (Memref.IsWhole.read_unread _ _))
  iexists _; isplitr
  swap; · iexact HB
  ipureintro; exact Memref.IsWhole.read_unread _ _

/-- The first point: a transfer is started and awaited, the next one started. -/
theorem runA (c : Dev nD) (i : grid0.Coords) (arg2 : Memref sig .tc .vmem S1024x4096 .bf16) (harg2 : arg2.IsWhole)
    (arg4 : Memref sig .tc .vmem S1024x1024 .bf16) (harg4 : arg4.IsWhole)
    (h1 : k0_cond1 i = 1#1) (h2 : k0_cond2 i = 1#1) (h3 : k0_cond3 i = 1#1)
    (x0 : Vec F S1024x4096 .bf16) (fw : Buf (Elt F) (hbM.view.loc (c : Thread nD τ))) (W : Waits sig Unit) (K : PUnit → sProp 𝕄) :
    iprop(owns (c : Thread nD τ) arg2 fullShare x0 ∗ (∃ d, owns (c : Thread nD τ) arg4 fullShare d)
        ∗ (∃ d, owns (c : Thread nD τ) scM fullShare d) ∗ (∃ d, owns (c : Thread nD τ) scB fullShare d)
        ∗ semVal ((c : Thread nD τ), SemLoc.dma 4) 0 ∗ hbPt c hbM fw
        ∗ owes (c : Thread nD τ) 0 W
        ∗ (iprop(owns (c : Thread nD τ) arg2 fullShare x0 ∗ owns (c : Thread nD τ) arg4 fullShare (k0_pay2 i x0 (k0_pay1 (tile c fw (k0_off1 i) (k0_off1_inb i h1 h2))))
              ∗ owns (c : Thread nD τ) scB fullShare (k0_pay1 (tile c fw (k0_off1 i) (k0_off1_inb i h1 h2)))
              ∗ flight c fw (k0_off3 i) (k0_off3_inb i h1 h3) ∗ rest c fw (k0_off3 i) (k0_off3_inb i h1 h3)
              ∗ (∃ W', owes (c : Thread nD τ) 0 W')) -∗ K ⟨⟩))
      ⊢ wp frame (wpE (defs₀ (F := F)) Variants.none c none) Set.univ
          (cc0_inproj i arg2 harg2 hbM (Memref.isWhole_whole _) arg4 harg4 scM (Memref.isWhole_whole _) scB (Memref.isWhole_whole _) cc0_scratch2) K := by
  simp only [cc0_inproj_eq_skeleton]; unfold cc0_inproj_skel
  unfold owns
  iintro ⟨⟨%f0, %hf0, H0⟩, ⟨%d1, %f1, -, H1⟩, ⟨%ds, %fs, -, HS⟩, ⟨%db, %fb, -, HB⟩, Hq, Hh, HW, Hk⟩
  obtain rfl := harg2.eq_unread hf0

  sl_exec (disch := first | sl_exact h1 | sl_exact h2 | sl_exact h3)
  sl_step
  iapply Hk
  isplitl [H0]
  · iexists _; isplitr; · ipureintro; exact harg2.read_unread _
    iexact H0
  isplitl [H1]
  · iexists _; isplitr
    swap; · iexact H1
    ipureintro
    refine (View.read_writes_full _ _ _ _ _).trans ?_
    exact congrArg₂ (k0_pay2 i) ((View.readAt_full arg2.view _ _).trans (harg2.read_unread _)) ((View.readCov_full scB.view _ _ _ _).trans (congrArg k0_pay1 (filled scM.view _ _)))
  isplitl [HB]
  · iexists _; isplitr
    swap; · iexact HB
    ipureintro
    refine (View.read_writes_full _ _ _ _ _).trans ?_
    exact congrArg k0_pay1 (filled scM.view _ _)
  isplitl [Hq]
  · iapply (takeoff c fw _ _ _ _ _ rfl); iexact Hq
  isplitl [Hh]; · unfold rest; iexact Hh
  iexists _; iexact HW

/-- The first point of a later block of columns but the last: the transfer in flight is awaited, the next one started. -/
theorem runB (c : Dev nD) (i : grid0.Coords) (arg2 : Memref sig .tc .vmem S1024x4096 .bf16) (harg2 : arg2.IsWhole)
    (arg4 : Memref sig .tc .vmem S1024x1024 .bf16) (harg4 : arg4.IsWhole)
    (h1 : k0_cond1 i = 1#1) (h2 : ¬k0_cond2 i = 1#1) (h3 : k0_cond3 i = 1#1)
    (x0 : Vec F S1024x4096 .bf16) (fw : Buf (Elt F) (hbM.view.loc (c : Thread nD τ))) (o : Fin 2 → ℕ) (ho : ∀ a, o a + S4096x1024.size a ≤ S4096x17408.size a) (W : Waits sig Unit) (K : PUnit → sProp 𝕄) :
    iprop(owns (c : Thread nD τ) arg2 fullShare x0 ∗ (∃ d, owns (c : Thread nD τ) arg4 fullShare d)
        ∗ (∃ d, owns (c : Thread nD τ) scB fullShare d)
        ∗ flight c fw o ho ∗ rest c fw o ho
        ∗ owes (c : Thread nD τ) 0 W
        ∗ (iprop(owns (c : Thread nD τ) arg2 fullShare x0 ∗ owns (c : Thread nD τ) arg4 fullShare (k0_pay2 i x0 (k0_pay1 (tile c fw o ho)))
              ∗ owns (c : Thread nD τ) scB fullShare (k0_pay1 (tile c fw o ho))
              ∗ flight c fw (k0_off3 i) (k0_off3_inb i h1 h3) ∗ rest c fw (k0_off3 i) (k0_off3_inb i h1 h3)
              ∗ (∃ W', owes (c : Thread nD τ) 0 W')) -∗ K ⟨⟩))
      ⊢ wp frame (wpE (defs₀ (F := F)) Variants.none c none) Set.univ
          (cc0_inproj i arg2 harg2 hbM (Memref.isWhole_whole _) arg4 harg4 scM (Memref.isWhole_whole _) scB (Memref.isWhole_whole _) cc0_scratch2) K := by
  simp only [cc0_inproj_eq_skeleton]; unfold cc0_inproj_skel
  rw [flight_eq c fw o ho, rest_eq c fw o ho]
  unfold owns
  iintro ⟨⟨%f0, %hf0, H0⟩, ⟨%d1, %f1, -, H1⟩, ⟨%db, %fb, -, HB⟩, Hq, Hh, HW, Hk⟩
  obtain rfl := harg2.eq_unread hf0

  sl_exec (disch := first | sl_exact h1 | sl_exact h2 | sl_exact h3)
  sl_step
  iapply Hk
  isplitl [H0]
  · iexists _; isplitr; · ipureintro; exact harg2.read_unread _
    iexact H0
  isplitl [H1]
  · iexists _; isplitr
    swap; · iexact H1
    ipureintro
    refine (View.read_writes_full _ _ _ _ _).trans ?_
    exact congrArg₂ (k0_pay2 i) ((View.readAt_full arg2.view _ _).trans (harg2.read_unread _)) ((View.readCov_full scB.view _ _ _ _).trans (congrArg k0_pay1 ((View.readAt_full scM.view _ _).trans (Memref.IsWhole.read_unread _ _))))
  isplitl [HB]
  · iexists _; isplitr
    swap; · iexact HB
    ipureintro
    refine (View.read_writes_full _ _ _ _ _).trans ?_
    exact congrArg k0_pay1 ((View.readAt_full scM.view _ _).trans (Memref.IsWhole.read_unread _ _))
  isplitl [Hq]
  · iapply (takeoff c fw _ _ _ _ _ rfl); iexact Hq
  isplitl [Hh]; · unfold rest; iexact Hh
  iexists _; iexact HW

/-- The first point of the last block of columns: the transfer in flight is awaited, none is started. -/
theorem runC (c : Dev nD) (i : grid0.Coords) (arg2 : Memref sig .tc .vmem S1024x4096 .bf16) (harg2 : arg2.IsWhole)
    (arg4 : Memref sig .tc .vmem S1024x1024 .bf16) (harg4 : arg4.IsWhole)
    (h1 : k0_cond1 i = 1#1) (h2 : ¬k0_cond2 i = 1#1) (h3 : ¬k0_cond3 i = 1#1)
    (x0 : Vec F S1024x4096 .bf16) (fw : Buf (Elt F) (hbM.view.loc (c : Thread nD τ))) (o : Fin 2 → ℕ) (ho : ∀ a, o a + S4096x1024.size a ≤ S4096x17408.size a) (W : Waits sig Unit) (K : PUnit → sProp 𝕄) :
    iprop(owns (c : Thread nD τ) arg2 fullShare x0 ∗ (∃ d, owns (c : Thread nD τ) arg4 fullShare d)
        ∗ (∃ d, owns (c : Thread nD τ) scB fullShare d)
        ∗ flight c fw o ho ∗ rest c fw o ho
        ∗ owes (c : Thread nD τ) 0 W
        ∗ (iprop(owns (c : Thread nD τ) arg2 fullShare x0 ∗ owns (c : Thread nD τ) arg4 fullShare (k0_pay2 i x0 (k0_pay1 (tile c fw o ho)))
              ∗ owns (c : Thread nD τ) scB fullShare (k0_pay1 (tile c fw o ho))
              ∗ (∃ d, owns (c : Thread nD τ) scM fullShare d) ∗ semVal ((c : Thread nD τ), SemLoc.dma 4) 0 ∗ hbPt c hbM fw
              ∗ (∃ W', owes (c : Thread nD τ) 0 W')) -∗ K ⟨⟩))
      ⊢ wp frame (wpE (defs₀ (F := F)) Variants.none c none) Set.univ
          (cc0_inproj i arg2 harg2 hbM (Memref.isWhole_whole _) arg4 harg4 scM (Memref.isWhole_whole _) scB (Memref.isWhole_whole _) cc0_scratch2) K := by
  simp only [cc0_inproj_eq_skeleton]; unfold cc0_inproj_skel
  rw [flight_eq c fw o ho, rest_eq c fw o ho]
  unfold owns
  iintro ⟨⟨%f0, %hf0, H0⟩, ⟨%d1, %f1, -, H1⟩, ⟨%db, %fb, -, HB⟩, Hq, Hh, HW, Hk⟩
  obtain rfl := harg2.eq_unread hf0

  sl_exec (disch := first | sl_exact h1 | sl_exact h2 | sl_exact h3)
  sl_step
  iapply Hk
  isplitl [H0]
  · iexists _; isplitr; · ipureintro; exact harg2.read_unread _
    iexact H0
  isplitl [H1]
  · iexists _; isplitr
    swap; · iexact H1
    ipureintro
    refine (View.read_writes_full _ _ _ _ _).trans ?_
    exact congrArg₂ (k0_pay2 i) ((View.readAt_full arg2.view _ _).trans (harg2.read_unread _)) ((View.readCov_full scB.view _ _ _ _).trans (congrArg k0_pay1 ((View.readAt_full scM.view _ _).trans (Memref.IsWhole.read_unread _ _))))
  isplitl [HB]
  · iexists _; isplitr
    swap; · iexact HB
    ipureintro
    refine (View.read_writes_full _ _ _ _ _).trans ?_
    exact congrArg k0_pay1 ((View.readAt_full scM.view _ _).trans (Memref.IsWhole.read_unread _ _))
  isplitl [Hq_dst]
  · iexists _, _; isplitr
    swap; · iexact Hq_dst
    ipureintro; rfl
  isplitl [Hq]; · iexact Hq
  isplitl [Hh]; · iexact Hh
  iexists _; iexact HW

end Cert.Kernel2Ideal.Inproj

end
-- ==== Proof.InprojFrame.lean ====
/- The input projection's frame: what the kernel holds between its points, with the next block of columns in flight,
   its body at every point, and the run. -/
module

public import proofs.«01_k».proof.Proof.InprojRun

@[expose] public section

set_option maxRecDepth 16384

noncomputable section

namespace Cert.Kernel2Ideal.Inproj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Core `c`'s buffers when the region is entered: as launched. -/
abbrev V (c : Dev nD) (b : Ref sig .tc) : Buf (Elt F) ((c : Thread nD τ).loc b) := m ((c : Thread nD τ).loc b)

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem hmain (𝒱₀ : Variants) :
    Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-! ## The columns at block `k` -/

/-- The offset of the `k`-th block of columns (the last one's for larger `k`). -/
def col (k : ℕ) : Fin 2 → ℕ := ![0, 1024 * min k 16]
theorem col_inb (k : ℕ) : ∀ a, col k a + S4096x1024.size a ≤ S4096x17408.size a := fun a =>
  match a with
  | ⟨0, _⟩ => (by decide : 0 + 4096 ≤ 4096)
  | ⟨1, _⟩ => by
      show 1024 * min k 16 + 1024 ≤ 17408
      have := Nat.min_le_right k 16
      omega

/-- The bf16 columns the second scratch holds after point `n`. -/
def WB (c : Dev nD) (n : ℕ) : FVec F S4096x1024 .bf16 := k0_pay1 (tile c (V m c main_arg1) (col (n / 16)) (col_inb _))

/-! ## The branch conditions and the offsets at a point -/

theorem cond1 : ∀ t : Fin cfg0.N, k0_cond1 (grid0.coords t) = 1#1 ↔ t.val % 16 = 0 :=
  (by decide +kernel : ∀ t : Fin grid0.N, k0_cond1 (grid0.coords t) = 1#1 ↔ t.val % 16 = 0)
theorem cond2 : ∀ t : Fin cfg0.N, k0_cond2 (grid0.coords t) = 1#1 ↔ t.val / 16 = 0 :=
  (by decide +kernel : ∀ t : Fin grid0.N, k0_cond2 (grid0.coords t) = 1#1 ↔ t.val / 16 = 0)
theorem cond3 : ∀ t : Fin cfg0.N, k0_cond3 (grid0.coords t) = 1#1 ↔ t.val / 16 + 1 < 17 :=
  (by decide +kernel : ∀ t : Fin grid0.N, k0_cond3 (grid0.coords t) = 1#1 ↔ t.val / 16 + 1 < 17)
theorem off1 : ∀ t : Fin cfg0.N, k0_off1 (grid0.coords t) = col (t.val / 16) :=
  (by decide +kernel : ∀ t : Fin grid0.N, k0_off1 (grid0.coords t) = col (t.val / 16))
theorem off3 : ∀ t : Fin cfg0.N, t.val / 16 + 1 < 17 → k0_off3 (grid0.coords t) = col (t.val / 16 + 1) :=
  (by decide +kernel : ∀ t : Fin grid0.N, t.val / 16 + 1 < 17 → k0_off3 (grid0.coords t) = col (t.val / 16 + 1))

theorem tile_congr (c : Dev nD) (fw : Buf (Elt F) (hbM.view.loc (c : Thread nD τ))) {o o' : Fin 2 → ℕ} (e : o = o') (h) (h') :
    tile c fw o h = tile c fw o' h' := by subst e; rfl
theorem flight_congr (c : Dev nD) (fw : Buf (Elt F) (hbM.view.loc (c : Thread nD τ))) {o o' : Fin 2 → ℕ} (e : o = o') (h) (h') :
    (flight c fw o h : sProp 𝕄) = flight c fw o' h' := by subst e; rfl
theorem rest_congr (c : Dev nD) (fw : Buf (Elt F) (hbM.view.loc (c : Thread nD τ))) {o o' : Fin 2 → ℕ} (e : o = o') (h) (h') :
    (rest c fw o h : sProp 𝕄) = rest c fw o' h' := by subst e; rfl

/-! ## What is held between the points -/

abbrev osem0 : Fin 1 → SemLoc sig := fun _ => SemLoc.dma 4
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0) := by
  rw [Pipeline.ownSems0_eq_of_list c osem0 [0] (by decide) (by decide)]; rfl
/-- The weights, left in HBM: no window's array. -/
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt c hbM (V m c main_arg1)) := by
  rw [BI.bigSep_eq_bigSepL_of_eq [main_arg1] (by decide) (by decide)]; rfl

theorem PhiD0_eq (c : Dev nD) :
    (Pipeline.ΦD osem0 spec0 H0 (V m) c : sProp 𝕄)
      = iprop(iprop((∃ d, owns (c : Thread nD τ) scM fullShare d) ∗ (∃ d, owns (c : Thread nD τ) scB fullShare d)) ∗ (∃ r, prngReg c r)
          ∗ iprop(semVal ((c : Thread nD τ), SemLoc.dma 4) 0)
          ∗ iprop(hbPt c hbM (V m c main_arg1))) := by
  rw [Pipeline.ΦD_eq, scopedRest0_eq, ownSems00_eq, hbmPts0_eq]; simp only [scM, scB, owns_whole]; try rfl

/-- The first scratch, the semaphore and the weights after a point of the `k`-th block of columns: the next block in flight
    if there is one, else all at rest. -/
def air (c : Dev nD) (k : ℕ) : sProp 𝕄 :=
  if k + 1 < 17 then iprop(flight c (V m c main_arg1) (col (k + 1)) (col_inb _) ∗ rest c (V m c main_arg1) (col (k + 1)) (col_inb _))
  else iprop((∃ d, owns (c : Thread nD τ) scM fullShare d) ∗ semVal ((c : Thread nD τ), SemLoc.dma 4) 0 ∗ hbPt c hbM (V m c main_arg1))

def PhiS (c : Dev nD) : ℕ → sProp 𝕄
  | 0 => Pipeline.ΦD osem0 spec0 H0 (V m) c
  | n + 1 => iprop(owns (c : Thread nD τ) scB fullShare (WB m c n) ∗ (∃ r, prngReg c r) ∗ air m c (n / 16))

theorem PhiS_pos (c : Dev nD) (n : ℕ) (h : n ≠ 0) :
    PhiS m c n = iprop(owns (c : Thread nD τ) scB fullShare (WB m c (n - 1)) ∗ (∃ r, prngReg c r) ∗ air m c ((n - 1) / 16)) := by
  cases n with
  | zero => exact absurd rfl h
  | succ n => rfl

/-! ## The proof data and the body at a point -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => k0_pay2 (grid0.coords t) (iblk m c 0 t) (WB m c t.val)
  Φ t := PhiS m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) :
    (dats m 0 c).after 1 t = k0_pay2 (grid0.coords t) (iblk m c 0 t) (WB m c t.val) := by dsimp only [dats]
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

abbrev ms0_0 (t : Fin cfg0.N) : Memref sig .tc .vmem S1024x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

theorem t_lt (t : Fin cfg0.N) : t.val < 272 := lt_of_lt_of_eq t.isLt N_0

set_option maxHeartbeats 1600000 in
/-- The body at any point, by the four cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl, after0_0, after0_1,
    show (dats m 0 c).Φ t.castSucc = PhiS m c t.val from rfl,
    show (dats m 0 c).Φ t.succ = iprop(owns (c : Thread nD τ) scB fullShare (WB m c t.val) ∗ (∃ r, prngReg c r) ∗ air m c (t.val / 16)) from rfl]
  unfold Dat.owesAt Pipeline.owesWithin
  rw [show (dats m 0 c).owed t.castSucc = 0 from rfl]
  have hN := t_lt t
  by_cases h1 : t.val % 16 = 0
  · by_cases hz : t.val = 0
    · have h2 : t.val / 16 = 0 := by omega
      have h3 : t.val / 16 + 1 < 17 := by omega
      rw [show PhiS m c t.val = Pipeline.ΦD osem0 spec0 H0 (V m) c from by rw [hz]; rfl, PhiD0_eq]
      rw [show WB m c t.val = k0_pay1 (tile c (V m c main_arg1) (k0_off1 (grid0.coords t)) (k0_off1_inb _ ((cond1 t).2 h1) ((cond2 t).2 h2)))
        from congrArg k0_pay1 (tile_congr c _ (off1 t).symm _ _)]
      unfold air
      rw [if_pos h3, flight_congr c _ (off3 t h3).symm _ (k0_off3_inb _ ((cond1 t).2 h1) ((cond3 t).2 h3)),
        rest_congr c _ (off3 t h3).symm _ (k0_off3_inb _ ((cond1 t).2 h1) ((cond3 t).2 h3))]
      iintro ⟨⟨⟨HS, HB⟩, Hg, Hq, Hh⟩, ⟨%W, %hW, HO⟩, ⟨%d0, H0⟩, ⟨%d1, H1⟩⟩
      iapply (runA c (grid0.coords t) (ms0_0 t) (hs0_0 t) (ms0_1 t) (hs0_1 t) ((cond1 t).2 h1) ((cond2 t).2 h2) ((cond3 t).2 h3)
        (iblk m c 0 t) (V m c main_arg1) W _)
      isplitl [H0]; · iexact H0
      isplitl [H1]; · iexists _; iexact H1
      isplitl [HS]; · iexact HS
      isplitl [HB]; · iexact HB
      isplitl [Hq]; · iexact Hq
      isplitl [Hh]; · iexact Hh
      isplitl [HO]; · iexact HO
      iintro ⟨H0, H1, HB, Hf, Hr, ⟨%W', HO⟩⟩
      isplitl [HB Hg Hf Hr]
      · isplitl [HB]; · iexact HB
        isplitl [Hg]; · iexact Hg
        isplitl [Hf]; · iexact Hf
        iexact Hr
      isplitl [HO]
      · iexists W'; isplitr; · ipureintro; exact fun _ _ => Or.inl trivial
        iexact HO
      isplitl [H0]; · iexact H0
      iexact H1
    · have h2 : ¬t.val / 16 = 0 := by omega
      have e : (t.val - 1) / 16 + 1 = t.val / 16 := by omega
      rw [PhiS_pos m c _ hz]
      rw [show air m c ((t.val - 1) / 16) = (iprop(flight c (V m c main_arg1) (col (t.val / 16)) (col_inb _) ∗ rest c (V m c main_arg1) (col (t.val / 16)) (col_inb _)) : sProp 𝕄)
        from by unfold air; simp only [e]; rw [if_pos (by omega)]]
      by_cases h3 : t.val / 16 + 1 < 17
      · unfold air
        rw [if_pos h3, flight_congr c _ (off3 t h3).symm _ (k0_off3_inb _ ((cond1 t).2 h1) ((cond3 t).2 h3)),
          rest_congr c _ (off3 t h3).symm _ (k0_off3_inb _ ((cond1 t).2 h1) ((cond3 t).2 h3))]
        iintro ⟨⟨HB, Hg, Hf, Hr⟩, ⟨%W, %hW, HO⟩, ⟨%d0, H0⟩, ⟨%d1, H1⟩⟩
        iapply (runB c (grid0.coords t) (ms0_0 t) (hs0_0 t) (ms0_1 t) (hs0_1 t) ((cond1 t).2 h1) (fun h => h2 ((cond2 t).1 h)) ((cond3 t).2 h3)
          (iblk m c 0 t) (V m c main_arg1) (col (t.val / 16)) (col_inb _) W _)
        isplitl [H0]; · iexact H0
        isplitl [H1]; · iexists _; iexact H1
        isplitl [HB]; · iexists _; iexact HB
        isplitl [Hf]; · iexact Hf
        isplitl [Hr]; · iexact Hr
        isplitl [HO]; · iexact HO
        iintro ⟨H0, H1, HB, Hf, Hr, ⟨%W', HO⟩⟩
        isplitl [HB Hg Hf Hr]
        · isplitl [HB]; · iexact HB
          isplitl [Hg]; · iexact Hg
          isplitl [Hf]; · iexact Hf
          iexact Hr
        isplitl [HO]
        · iexists W'; isplitr; · ipureintro; exact fun _ _ => Or.inl trivial
          iexact HO
        isplitl [H0]; · iexact H0
        iexact H1
      · unfold air
        rw [if_neg h3]
        iintro ⟨⟨HB, Hg, Hf, Hr⟩, ⟨%W, %hW, HO⟩, ⟨%d0, H0⟩, ⟨%d1, H1⟩⟩
        iapply (runC c (grid0.coords t) (ms0_0 t) (hs0_0 t) (ms0_1 t) (hs0_1 t) ((cond1 t).2 h1) (fun h => h2 ((cond2 t).1 h)) (fun h => h3 ((cond3 t).1 h))
          (iblk m c 0 t) (V m c main_arg1) (col (t.val / 16)) (col_inb _) W _)
        isplitl [H0]; · iexact H0
        isplitl [H1]; · iexists _; iexact H1
        isplitl [HB]; · iexists _; iexact HB
        isplitl [Hf]; · iexact Hf
        isplitl [Hr]; · iexact Hr
        isplitl [HO]; · iexact HO
        iintro ⟨H0, H1, HB, HS, Hq, Hh, ⟨%W', HO⟩⟩
        isplitl [HB Hg HS Hq Hh]
        · isplitl [HB]; · iexact HB
          isplitl [Hg]; · iexact Hg
          isplitl [HS]; · iexact HS
          isplitl [Hq]; · iexact Hq
          iexact Hh
        isplitl [HO]
        · iexists W'; isplitr; · ipureintro; exact fun _ _ => Or.inl trivial
          iexact HO
        isplitl [H0]; · iexact H0
        iexact H1
  · have hz : t.val ≠ 0 := fun h => h1 (by rw [h])
    have e : (t.val - 1) / 16 = t.val / 16 := by omega
    rw [PhiS_pos m c _ hz, e, show WB m c (t.val - 1) = WB m c t.val from congrArg k0_pay1 (tile_congr c _ (congrArg col e) _ _)]
    iintro ⟨⟨HB, Hg, Ha⟩, HO, ⟨%d0, H0⟩, ⟨%d1, H1⟩⟩
    iapply (runD c (grid0.coords t) (ms0_0 t) (hs0_0 t) (ms0_1 t) (hs0_1 t) (fun h => h1 ((cond1 t).1 h)) (iblk m c 0 t) (WB m c t.val) _)
    isplitl [H0]; · iexact H0
    isplitl [H1]; · iexists _; iexact H1
    isplitl [HB]; · iexact HB
    iintro ⟨H0, H1, HB⟩
    isplitl [HB Hg Ha]
    · isplitl [HB]; · iexact HB
      isplitl [Hg]; · iexact Hg
      iexact Ha
    isplitl [HO]; · iexact HO
    isplitl [H0]; · iexact H0
    iexact H1

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem hout (c : Dev nD) : (dats m 0 c).Φ (Fin.last cfg0.N) ⊢ Pipeline.ΦD osem0 spec0 H0 (V m) c := by
  rw [show (dats m 0 c).Φ (Fin.last cfg0.N) = PhiS m c grid0.N from rfl, N_0, PhiD0_eq, PhiS_pos m c 272 (by decide)]
  unfold air
  rw [if_neg (by decide)]
  iintro ⟨HB, Hg, HS, Hq, Hh⟩
  isplitl [HS HB]
  · isplitl [HS]; · iexact HS
    iexists _; iexact HB
  isplitl [Hg]; · iexact Hg
  isplitl [Hq]; · iexact Hq
  iexact Hh

set_option backward.isDefEq.respectTransparency.types false in
theorem run_main_quiescent : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := hout m)

theorem run_main : θ_run defs (onTc (τ := τ) (main (F := F))) (s₀ m ρ) (Pipeline.FramePost cfgs (dats m) 0 (V m)) :=
  (θ_run defs _ _).mono (fun _ h => h.1) (run_main_quiescent m ρ)

variable {m} in
theorem kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).1 0).trans (((dats m 0 c).arrAt_in 0 rfl _).trans (A_eq m c 0)),
    (h c).2 main_arg1 (Pipeline.mem_restRefs_of main_arg1 (by decide) (by decide))⟩

/-- Every execution ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => kept h.1 c, h.2⟩) (run_main_quiescent m ρ)

end Cert.Kernel2Ideal.Inproj

end
-- ==== Proof.Inproj.lean ====
/- The input projection: the array the kernel leaves is the reference's. -/
module

public import proofs.«01_k».proof.Proof.InprojFrame
public import proofs.«01_k».proof.Proof.Gen.Reference2Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Gate

theorem half : Ideal.ofBits FTy.f32 0x3F000000#32 = ((1 / 2 : ℝ) : EReal) := by
  simp [Ideal.ofBits, Ideal.ieee]
  rw [← EReal.coe_mul]
  norm_num

/-- The sigmoid by the half angle's hyperbolic tangent is the one by the exponential, at every extended real. -/
theorem sigmoid (x : EReal) :
    ((1 / 2 : ℝ) : EReal) * Ideal.tanh (((1 / 2 : ℝ) : EReal) * x) + ((1 / 2 : ℝ) : EReal) = Ideal.div 1 (1 + Ideal.exp (-x)) := by
  induction x with
  | bot =>
    rw [EReal.coe_mul_bot_of_pos (by norm_num), EReal.neg_bot, Ideal.tanh_bot]
    rw [show Ideal.exp ⊤ = ⊤ from rfl]
    unfold Ideal.div
    rw [EReal.add_top_of_ne_bot (by decide), if_neg (by decide), EReal.inv_top, mul_zero, ← EReal.coe_one, ← EReal.coe_neg, ← EReal.coe_mul, ← EReal.coe_add]
    norm_num
  | top =>
    rw [EReal.coe_mul_top_of_pos (by norm_num), EReal.neg_top, Ideal.tanh_top]
    rw [show Ideal.exp ⊥ = 0 from rfl]
    unfold Ideal.div
    rw [add_zero, if_neg (by norm_num), ← EReal.coe_one, ← EReal.coe_mul, ← EReal.coe_add, ← EReal.coe_inv, ← EReal.coe_mul]
    norm_num
  | coe r =>
    rw [← EReal.coe_neg, ← EReal.coe_mul, Ideal.tanh_coe]
    have h : (1 / 2 : ℝ) * Real.tanh (1 / 2 * r) + 1 / 2 = (1 + Real.exp (-r))⁻¹ := by
      rw [Real.tanh_eq_sinh_div_cosh, Real.sinh_eq, Real.cosh_eq]
      have e : Real.exp (-r) = Real.exp (-(1 / 2 * r)) / Real.exp (1 / 2 * r) := by
        rw [← Real.exp_sub]; congr 1; ring
      rw [e]
      have h1 := Real.exp_pos (1 / 2 * r)
      have h2 := Real.exp_pos (-(1 / 2 * r))
      field_simp
      ring
    have hp : 0 < 1 + Real.exp (-r) := by have := Real.exp_pos (-r); linarith
    show _ = Ideal.div 1 (1 + ((Real.exp (-r) : ℝ) : EReal))
    rw [← EReal.coe_one, ← EReal.coe_add, ← EReal.coe_mul, ← EReal.coe_add, h]
    unfold Ideal.div
    rw [if_neg (by exact_mod_cast hp.ne'), ← EReal.coe_inv, ← EReal.coe_mul, one_mul]

end Cert.Gate

namespace Cert.Kernel2Ideal.Inproj

open Cert.Kernel2Ideal Cert.Kernel2Ideal.Gen
variable (m : (ℓ : Loc nD τ sig) → Buf (Elt Ideal) ℓ) (c : Dev nD)

/-- The reference's product. -/
abbrev DOT (A : FVec Ideal S16384x4096 .bf16) (W : FVec Ideal S4096x17408 .f32) : FVec Ideal S16384x17408 .f32 :=
  Host.dotGeneral Cert.Reference2Ideal.dot_S16384x4096_S4096x17408_S16384x17408_1_0_0_1_n_n none
    (extf .f32 A Cert.Reference2Ideal.Gen.bitsLt_bf16_f32) W
/-- Its sigmoid over one gate's columns. -/
abbrev GATE (s : FVec Ideal Cert.Reference2Ideal.S16384x4096 .f32) : FVec Ideal Cert.Reference2Ideal.S16384x4096 .f32 :=
  Host.divf (broadcastInDim Cert.Reference2Ideal.S16384x4096 ![] Cert.Reference2Ideal.Gen.bcast_S_S16384x4096 (constant Cert.Reference2Ideal.S_ .f32 0x3F800000#32))
    (addf (broadcastInDim Cert.Reference2Ideal.S16384x4096 ![] Cert.Reference2Ideal.Gen.bcast_S_S16384x4096 (constant Cert.Reference2Ideal.S_ .f32 0x3F800000#32))
      (Host.exp (Host.negf s)))
/-- The reference's result over its two arguments. -/
abbrev REF (A : FVec Ideal S16384x4096 .bf16) (W : FVec Ideal S4096x17408 .f32) : FVec Ideal S16384x17408 .bf16 :=
  truncf .bf16 (concatenate Cert.Reference2Ideal.S16384x17408 1
    [⟨Cert.Reference2Ideal.S16384x9216, extractStridedSlice Cert.Reference2Ideal.S16384x9216 ![0, 0] (DOT A W) Cert.Reference2Ideal.Gen.slices_S16384x17408_S16384x9216_0_0⟩,
     ⟨Cert.Reference2Ideal.S16384x4096, GATE (extractStridedSlice Cert.Reference2Ideal.S16384x4096 ![0, 9216] (DOT A W) Cert.Reference2Ideal.Gen.slices_S16384x17408_S16384x4096_0_9216)⟩,
     ⟨Cert.Reference2Ideal.S16384x4096, GATE (extractStridedSlice Cert.Reference2Ideal.S16384x4096 ![0, 13312] (DOT A W) Cert.Reference2Ideal.Gen.slices_S16384x17408_S16384x4096_0_13312)⟩]
    Cert.Reference2Ideal.Gen.concatenates_S16384x9216_S16384x4096_S16384x4096_S16384x17408_d1) Cert.Reference2Ideal.Gen.bitsLt_bf16_f32

/-- One element: the product, through the sigmoid where its column is a gate's. -/
def elt (q : ℕ) (x : EReal) : EReal := if q < 9216 then x else Ideal.div 1 (1 + Ideal.exp (-x))

theorem ref_at (A : FVec Ideal S16384x4096 .bf16) (W : FVec Ideal S4096x17408 .f32) (r : Fin 16384) (q : Fin 17408) :
    REF A W (ix2 r q) = elt q.val (∑ k : Fin 4096, A (ix2 r k) * W (ix2 k q)) := by
  unfold elt
  pointwise [REF, DOT, GATE]
  by_cases h : q.val < 9216
  · rw [dif_pos h, if_pos h]
  · rw [dif_neg h, if_neg h]
    have hq := q.isLt
    by_cases h' : q.val - 9216 < 4096
    · rw [dif_pos h']
      have e : (⟨9216 + (q.val - 9216), by omega⟩ : Fin 17408) = q := Fin.ext (by show 9216 + (q.val - 9216) = q.val; omega)
      simp only [e]
    · rw [dif_neg h']
      have e : (⟨13312 + (q.val - 9216 - 4096), by omega⟩ : Fin 17408) = q := Fin.ext (by show 13312 + (q.val - 9216 - 4096) = q.val; omega)
      simp only [e]

/-- Every window's block index at every point. -/
theorem idx : ∀ t : Fin cfg0.N, win0_0.index t = ![t.val % 16, 0] ∧ win0_1.index t = ![t.val % 16, t.val / 16] :=
  (by decide +kernel : ∀ t : Fin grid0.N, _)

/-- Which columns the kernel sends through the sigmoid. -/
theorem gate_at : ∀ t : Fin cfg0.N, Scalar.cmpi .sge (BitVec.ofNat 32 (grid0.coords t 0).val) 9#32 = if t.val / 16 < 9 then 0#1 else 1#1 :=
  (by decide +kernel : ∀ t : Fin grid0.N, _)

theorem pay_at (t : Fin cfg0.N) (x : FVec Ideal S1024x4096 .bf16) (w : FVec Ideal S4096x1024 .bf16) (a : Fin 1024) (b : Fin 1024) :
    k0_pay2 (F := Ideal) (grid0.coords t) x w (ix2 a b) = elt (t.val / 16 * 1024 + b.val) (∑ k : Fin 4096, x (ix2 a k) * w (ix2 k b)) := by
  have g := gate_at t
  unfold elt
  pointwise [k0_pay2, g]
  have hb := b.isLt
  rw [Cert.Gate.half, Cert.Gate.sigmoid]
  by_cases h : t.val / 16 < 9
  · rw [if_pos h, if_pos (by omega)]; rfl
  · rw [if_neg h, if_neg (by omega)]; rfl

/-- The scratch after point `t`, elementwise. -/
theorem wb_at (t : Fin cfg0.N) (k : Fin 4096) (j : Fin 1024) :
    WB m c t.val (ix2 k j) = (m ((c : Thread nD τ).loc main_arg1) : FVec Ideal S4096x17408 .f32)
      (ix2 k ⟨t.val / 16 * 1024 + j.val, by have := t_lt t; omega⟩) := by
  have ht := t_lt t
  unfold WB
  pointwise [k0_pay1]
  show (m ((c : Thread nD τ).loc main_arg1) : FVec Ideal S4096x17408 .f32) ((src (col (t.val / 16)) (col_inb _)).view.emb (ix2 k j)) = _
  refine congrArg (m ((c : Thread nD τ).loc main_arg1) : FVec Ideal S4096x17408 .f32) ?_
  funext a
  match a with
  | ⟨0, _⟩ => exact Fin.ext (by show 0 + 1 * k.val = k.val; omega)
  | ⟨1, _⟩ => exact Fin.ext (by show 1024 * min (t.val / 16) 16 + 1 * j.val = t.val / 16 * 1024 + j.val; omega)

/-- THE ARRAY after the run. -/
theorem final : (dats m 0 c).arrAt 1 (cfgs 0).N
    = REF (m ((c : Thread nD τ).loc main_arg0)) (m ((c : Thread nD τ).loc main_arg1)) := by
  refine (dats m 0 c).arrAt_eq_of_covers 1 _ (by decide +kernel) fun t _ y => ?_
  blk_simp
  rw [after0_1]
  have ht := t_lt t
  idx_vars y
  have e : (win0_1.blk t).view.emb (ix2 y0 y1) = (ix2 ⟨t.val % 16 * 1024 + y0.val, by omega⟩ ⟨t.val / 16 * 1024 + y1.val, by omega⟩ : S16384x17408.Idx) := by
    blk_ext [idx t]
  rw [e, ref_at, pay_at]
  refine congrArg (elt _) (Finset.sum_congr rfl fun k _ => Ideal.mul_congr ?_ (wb_at m c t k y1))
  blk_point [iblk, V, idx t]

/-- The reference's result over the launch contents. -/
abbrev result : FVec Ideal S16384x17408 .bf16 := REF (m ((c : Thread nD τ).loc main_arg0)) (m ((c : Thread nD τ).loc main_arg1))

/-- Every execution ends with the reference's result in place and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h c).1 1).trans (final m c), kept h c⟩) (run_main m ρ)

end Cert.Kernel2Ideal.Inproj

end
-- ==== Proof.InprojBits.lean ====
/- The input projection's frame at the machine's floats: the two programs are one text, so the run is the one of
   `InprojFrame.lean`. -/
module

public import proofs.«01_k».proof.Proof.InprojFrame
public import proofs.«01_k».proof.Proof.Gen.Kernel2.Launch

@[expose] public section

set_option maxRecDepth 16384

noncomputable section

namespace Cert.Kernel2.Inproj

open Cert.Kernel2 Cert.Kernel2.Gen
open Idealize.ShloMosaic Idealize.ShloMosaic.TcCoe
open Idealize.SL.Sem

variable {F : FTy → Type} [FloatOps F]

/-- The two body tables hold the same body. -/
theorem defs₀_eq : (Cert.Kernel2.defs₀ (F := F) : Defs nD τ sig (Elt F) Λ₀) = Cert.Kernel2Ideal.defs₀ (F := F) := by
  unfold Cert.Kernel2.defs₀ Cert.Kernel2Ideal.defs₀
  refine congrArg (Defs.onTc (nD := nD) (τ := τ) (sig := sig) (Val := Elt F) (Λ := Λ₀)) ?_
  funext ℓ a
  match ℓ, a with
  | 0, (i, s) => rfl

theorem defs_eq : (Cert.Kernel2.defs (F := F) : Defs nD τ sig (Elt F) (Pipeline.Sig Λ₀ (Fin 1) fun p => (pcfgs (F := F) p).Adm))
    = Cert.Kernel2Ideal.defs (F := F) :=
  congrArg (Pipeline.defs (pcfgs (F := F))) defs₀_eq

/-- Every execution ends, the arguments unchanged and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  by rw [defs_eq]; exact Cert.Kernel2Ideal.Inproj.frame m ρ

end Cert.Kernel2.Inproj

end
-- ==== Proof.Merge.lean ====
/- The gated merge of the two branches: the array the kernel leaves is the reference's. -/
module

public import proofs.«01_k».proof.Proof.Gen.Kernel3Ideal.Frame
public import proofs.«01_k».proof.Proof.Gen.Reference3Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Merge

open Cert.Kernel3Ideal Cert.Kernel3Ideal.Gen
variable (m : (ℓ : Loc nD τ sig) → Buf (Elt Ideal) ℓ) (c : Dev nD)

/-- The reference's result over its five arguments. -/
abbrev REF (A B : FVec Ideal S16384x2048 .bf16) (W U : FVec Ideal S2048x4096 .f32) (P : FVec Ideal S16384x17408 .bf16) :
    FVec Ideal S16384x4096 .bf16 :=
  truncf .bf16 (addf
    (mulf (extf .f32 (extractStridedSlice S16384x4096 ![0, 9216] P Cert.Reference3Ideal.Gen.slices_S16384x17408_S16384x4096_0_9216) Cert.Reference3Ideal.Gen.bitsLt_bf16_f32)
      (Host.dotGeneral Cert.Reference3Ideal.dot_S16384x2048_S2048x4096_S16384x4096_1_0_0_1_n_n none (extf .f32 A Cert.Reference3Ideal.Gen.bitsLt_bf16_f32) W))
    (mulf (extf .f32 (extractStridedSlice S16384x4096 ![0, 13312] P Cert.Reference3Ideal.Gen.slices_S16384x17408_S16384x4096_0_13312) Cert.Reference3Ideal.Gen.bitsLt_bf16_f32)
      (Host.dotGeneral Cert.Reference3Ideal.dot_S16384x2048_S2048x4096_S16384x4096_1_0_0_1_n_n none (extf .f32 B Cert.Reference3Ideal.Gen.bitsLt_bf16_f32) U)))
    Cert.Reference3Ideal.Gen.bitsLt_bf16_f32

/-- Every window's block index at every point. -/
theorem idx : ∀ t : Fin cfg0.N, win0_0.index t = ![t.val % 16, 0] ∧ win0_1.index t = ![t.val % 16, 0]
    ∧ win0_2.index t = ![0, t.val / 16] ∧ win0_3.index t = ![0, t.val / 16]
    ∧ win0_4.index t = ![t.val % 16, 18 + t.val / 16] ∧ win0_5.index t = ![t.val % 16, 26 + t.val / 16]
    ∧ win0_6.index t = ![t.val % 16, t.val / 16] :=
  (by decide +kernel : ∀ t : Fin grid0.N, _)

theorem t_lt (t : Fin cfg0.N) : t.val < 128 := lt_of_lt_of_eq t.isLt N_0

/-- A weight array's block of columns `n / 16`, which its scratch holds from the block's first point on. -/
def WB (W : FVec Ideal S2048x4096 .f32) (n : ℕ) : FVec Ideal S2048x512 .bf16 := fun i =>
  if h : n < 128 then W (ix2 (i 0) ⟨n / 16 * 512 + (i 1).val, by have : (i 1).val < 512 := (i 1).isLt; show _ < 4096; omega⟩) else 0

theorem wb_pred (W : FVec Ideal S2048x4096 .f32) (n : ℕ) (h : n < 128) (h0 : ¬ n % 16 = 0) : WB W (n - 1) = WB W n := by
  unfold WB
  have e : (n - 1) / 16 = n / 16 := by omega
  simp only [e, show n - 1 < 128 by omega, h]

theorem wb_at0 (t : Fin cfg0.N) : k0_pay1 (F := Ideal) (iblk m c 2 t) = WB (m ((c : Thread nD τ).loc main_arg2)) t.val := by
  funext i
  have ht := t_lt t
  unfold WB
  rw [dif_pos ht]
  idx_vars i
  pointwise [k0_pay1]
  blk_point [iblk, V, idx t]

theorem wb_at1 (t : Fin cfg0.N) : k0_pay2 (F := Ideal) (iblk m c 3 t) = WB (m ((c : Thread nD τ).loc main_arg3)) t.val := by
  funext i
  have ht := t_lt t
  unfold WB
  rw [dif_pos ht]
  idx_vars i
  pointwise [k0_pay2]
  blk_point [iblk, V, idx t]

theorem scratch_A (t : Fin cfg0.N) (h : t.val % 16 = 0) :
    (outsAt0 m c t.val t.isLt).2 = (WB (m ((c : Thread nD τ).loc main_arg2)) t.val, WB (m ((c : Thread nD τ).loc main_arg3)) t.val) := by
  rw [outsAt0_A m c t h, ← wb_at0, ← wb_at1]
  refine Prod.ext ?_ ?_
  · funext i
    frame_out
  · funext i
    frame_out

theorem scratch : ∀ (n : ℕ) (h : n < cfg0.N),
    (outsAt0 m c n h).2 = (WB (m ((c : Thread nD τ).loc main_arg2)) n, WB (m ((c : Thread nD τ).loc main_arg3)) n)
  | 0, h => scratch_A m c ⟨0, h⟩ rfl
  | n + 1, h => by
      by_cases h0 : (n + 1) % 16 = 0
      · exact scratch_A m c ⟨n + 1, h⟩ h0
      · rw [outsAt0_B m c ⟨n + 1, h⟩ h0]
        refine (scratch n (Nat.lt_of_succ_lt h)).trans ?_
        have hn := lt_of_lt_of_eq h N_0
        exact Prod.ext (wb_pred _ (n + 1) hn h0) (wb_pred _ (n + 1) hn h0)

theorem block (t : Fin cfg0.N) : (outsAt0 m c t.val t.isLt).1 = k0_pay3 (F := Ideal) (iblk m c 0 t)
    (WB (m ((c : Thread nD τ).loc main_arg2)) t.val) (iblk m c 1 t) (WB (m ((c : Thread nD τ).loc main_arg3)) t.val) (iblk m c 4 t) (iblk m c 5 t) := by
  by_cases h0 : t.val % 16 = 0
  · rw [← wb_at0, ← wb_at1, outsAt0_A m c t h0]
    funext i
    frame_out
  · rw [outsAt0_B m c t h0, scratch, wb_pred _ _ (t_lt t) h0, wb_pred _ _ (t_lt t) h0]
    funext i
    frame_out
    exact congrArg₂ (fun W U => k0_pay3 (F := Ideal) (iblk m c 0 t) W (iblk m c 1 t) U (iblk m c 4 t) (iblk m c 5 t) i)
      (Memref.IsWhole.read_unread _ _) (Memref.IsWhole.read_unread _ _)

/-- THE ARRAY after the run. -/
theorem final : (dats m 0 c).arrAt 6 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6, block]
  have ht := t_lt t
  pointwise [k0_pay3, REF]
  simp only [WB, dif_pos ht]
  blk_point [iblk, V, idx t]

end Cert.Kernel3Ideal.Merge

end
-- ==== Proof.Resid.lean ====
/- The output projection with its residual: the array the kernel leaves is the reference's. -/
module

public import proofs.«01_k».proof.Proof.Gen.Kernel4Ideal.Frame
public import proofs.«01_k».proof.Proof.Gen.Reference4Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.Resid

open Cert.Kernel4Ideal Cert.Kernel4Ideal.Gen
variable (m : (ℓ : Loc nD τ sig) → Buf (Elt Ideal) ℓ) (c : Dev nD)

/-- The reference's result over its three arguments. -/
abbrev REF (A : FVec Ideal S16384x4096 .bf16) (W : FVec Ideal S4096x4096 .f32) (X : FVec Ideal S16384x4096 .f32) :
    FVec Ideal S16384x4096 .f32 :=
  addf X (Host.dotGeneral Cert.Reference4Ideal.dot_S16384x4096_S4096x4096_S16384x4096_1_0_0_1_n_n none
    (extf .f32 A Cert.Reference4Ideal.Gen.bitsLt_bf16_f32) W)

/-- Every window's block index at every point. -/
theorem idx : ∀ t : Fin cfg0.N, win0_0.index t = ![t.val % 16, 0] ∧ win0_1.index t = ![0, t.val / 16]
    ∧ win0_2.index t = ![t.val % 16, t.val / 16] ∧ win0_3.index t = ![t.val % 16, t.val / 16] :=
  (by decide +kernel : ∀ t : Fin grid0.N, _)

theorem t_lt (t : Fin cfg0.N) : t.val < 128 := lt_of_lt_of_eq t.isLt N_0

/-- The weight array's block of columns `n / 16`, which the scratch holds from the block's first point on. -/
def WB (n : ℕ) : FVec Ideal S4096x512 .bf16 := fun i =>
  if h : n < 128 then (m ((c : Thread nD τ).loc main_arg1) : FVec Ideal S4096x4096 .f32)
    (ix2 (i 0) ⟨n / 16 * 512 + (i 1).val, by have : (i 1).val < 512 := (i 1).isLt; show _ < 4096; omega⟩) else 0

theorem wb_at (t : Fin cfg0.N) : k0_pay1 (F := Ideal) (iblk m c 1 t) = WB m c t.val := by
  funext i
  have ht := t_lt t
  unfold WB
  rw [dif_pos ht]
  idx_vars i
  pointwise [k0_pay1]
  blk_point [iblk, V, idx t]

theorem scratch_A (t : Fin cfg0.N) (h : t.val % 16 = 0) : (outsAt0 m c t.val t.isLt).2 = WB m c t.val := by
  rw [outsAt0_A m c t h, ← wb_at]
  funext i
  frame_out

theorem scratch : ∀ (n : ℕ) (h : n < cfg0.N), (outsAt0 m c n h).2 = WB m c n
  | 0, h => scratch_A m c ⟨0, h⟩ rfl
  | n + 1, h => by
      by_cases h0 : (n + 1) % 16 = 0
      · exact scratch_A m c ⟨n + 1, h⟩ h0
      · rw [outsAt0_B m c ⟨n + 1, h⟩ h0]
        refine (scratch n (Nat.lt_of_succ_lt h)).trans ?_
        unfold WB
        have e : n / 16 = (n + 1) / 16 := by omega
        have := lt_of_lt_of_eq h N_0
        simp only [e, show n < 128 by omega, show n + 1 < 128 by omega]

theorem block (t : Fin cfg0.N) : (outsAt0 m c t.val t.isLt).1 = k0_pay2 (F := Ideal) (iblk m c 2 t) (iblk m c 0 t) (WB m c t.val) := by
  by_cases h0 : t.val % 16 = 0
  · rw [← wb_at, outsAt0_A m c t h0]
    funext i
    frame_out
  · have h1 : t.val ≠ 0 := fun h => h0 (by rw [h])
    rw [outsAt0_B m c t h0, scratch]
    have e : WB m c (t.val - 1) = WB m c t.val := by
      have := t_lt t
      unfold WB
      have e : (t.val - 1) / 16 = t.val / 16 := by omega
      simp only [e, show t.val - 1 < 128 by omega, show t.val < 128 by omega]
    rw [e]
    funext i
    frame_out
    exact congrArg (fun W => k0_pay2 (F := Ideal) (iblk m c 2 t) (iblk m c 0 t) W i) (Memref.IsWhole.read_unread _ _)

/-- THE ARRAY after the run. -/
theorem final : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, block]
  have ht := t_lt t
  pointwise [k0_pay2, REF]
  simp only [WB, dif_pos ht]
  blk_point [iblk, V, idx t]

end Cert.Kernel4Ideal.Resid

end
-- ==== Proof.CrossScalar.lean ====
/- The scalar content of the memory attention: one row of the root-mean-square normalisation, one output element of a
   head, and the equality of the kernel's formula of a head with the reference's. -/
module

public import proofs.«01_k».proof.Proof.Scalar

@[expose] public section

set_option maxRecDepth 16384

noncomputable section

open Idealize.ShloMosaic Idealize.ShloMosaic.TcCoe Idealize.SL.Sem

namespace Cert.Cross

/-- One element of a row after the normalisation: `x · rsqrt(mean of squares + 1e-6) · gain`. -/
def rown (x g : Fin 4096 → EReal) (k : Fin 4096) : EReal :=
  x k * Ideal.rsqrt (Ideal.div (∑ z, x z * x z) (Ideal.ofBits FTy.f32 0x45800000#32) + Ideal.ofBits FTy.f32 0x358637BD#32) * g k

/-- The numbers `0x45800000` and `0x358637BD` are 4096 and a positive real. -/
theorem width : Ideal.ofBits FTy.f32 0x45800000#32 = ((4096 : ℝ) : EReal) := by
  simp [Ideal.ofBits, Ideal.ieee]; norm_cast; try norm_num

theorem eps : ∃ e : ℝ, 0 < e ∧ Ideal.ofBits FTy.f32 0x358637BD#32 = (e : EReal) := by
  refine ⟨8796093 * 2 ^ (-43 : ℤ), by positivity, ?_⟩
  simp [Ideal.ofBits, Ideal.ieee]

/-- A finite row with finite gains is finite after the normalisation. -/
theorem rown_real (x g : Fin 4096 → EReal) (hx : ∀ k, ∃ r : ℝ, x k = r) (hg : ∀ k, ∃ r : ℝ, g k = r) (k : Fin 4096) :
    ∃ r : ℝ, rown x g k = r := by
  choose a ha using hx
  choose b hb using hg
  obtain ⟨e, he, hE⟩ := eps
  have hs : (∑ z, x z * x z) = ((∑ z, a z * a z : ℝ) : EReal) := by
    rw [Cert.Attn.coe_sum]
    exact Finset.sum_congr rfl fun z _ => by rw [ha, EReal.coe_mul]
  have hp : 0 < (∑ z, a z * a z) * (1 / 4096) + e :=
    add_pos_of_nonneg_of_pos (mul_nonneg (Finset.sum_nonneg fun z _ => mul_self_nonneg _) (by norm_num)) he
  unfold rown
  rw [hs, width, hE, Ideal.div_coe (by norm_num), ← EReal.coe_mul, ← EReal.coe_add, Ideal.rsqrt_coe, if_neg hp.le.not_gt,
    if_neg hp.ne', ha, hb, ← EReal.coe_mul, ← EReal.coe_mul]
  exact ⟨_, rfl⟩

theorem sum_real {n : ℕ} (f h : Fin n → EReal) (hf : ∀ k, ∃ r : ℝ, f k = r) (hh : ∀ k, ∃ r : ℝ, h k = r) :
    ∃ r : ℝ, (∑ k, f k * h k) = r := by
  choose a ha using hf
  choose b hb using hh
  refine ⟨∑ k, a k * b k, ?_⟩
  rw [Cert.Attn.coe_sum]
  exact Finset.sum_congr rfl fun z _ => by rw [ha, hb, EReal.coe_mul]

/-- The largest of 256 scores. -/
def top (s : Fin 256 → EReal) : EReal := Finset.univ.fold max (Ideal.ofBits FTy.f32 4286578688#32) s

/-- The kernel's output element of a head over the scores: the weighted values over the weights' sum. -/
def headK (s v : Fin 256 → EReal) : EReal :=
  Ideal.div (∑ j, Ideal.exp (s j - top s) * v j) (∑ j, Ideal.exp (s j - top s))

/-- The reference's: the values weighted by the quotients. -/
def headR (s v : Fin 256 → EReal) : EReal :=
  ∑ j, v j * Ideal.div (Ideal.exp (s j - max (Ideal.ofBits FTy.f32 4286578688#32) (top s)))
    (∑ k, Ideal.exp (s k - max (Ideal.ofBits FTy.f32 4286578688#32) (top s)))

theorem top_real (s : Fin 256 → EReal) (hs : ∀ j, ∃ r : ℝ, s j = r) : ∃ t : ℝ, top s = t := by
  unfold top
  rw [Cert.Attn.negInf, Cert.Attn.fold_sup]
  choose a ha using hs
  have h1 : Finset.univ.sup s ≠ ⊤ := by
    refine ne_of_lt ((Finset.sup_lt_iff bot_lt_top).2 fun j _ => ?_)
    rw [ha]; exact EReal.coe_lt_top _
  have h2 : Finset.univ.sup s ≠ ⊥ := by
    refine ne_of_gt (lt_of_lt_of_le ?_ (Finset.le_sup (f := s) (Finset.mem_univ 0)))
    rw [ha]; exact EReal.bot_lt_coe _
  exact ⟨_, (EReal.coe_toReal h1 h2).symm⟩

/-- With finite scores the two formulas agree, and with finite values the element is finite. -/
theorem head_eq (s v : Fin 256 → EReal) (hs : ∀ j, ∃ r : ℝ, s j = r) : headK s v = headR s v := by
  obtain ⟨t, ht⟩ := top_real s hs
  choose a ha using hs
  have he : ∀ j, Ideal.exp (s j - top s) = ((Real.exp (a j - t) : ℝ) : EReal) := fun j => by
    rw [ht, ha, ← EReal.coe_sub]; rfl
  have hp : 0 < ∑ j : Fin 256, Real.exp (a j - t) := Finset.sum_pos (fun j _ => Real.exp_pos _) ⟨0, Finset.mem_univ _⟩
  unfold headK headR
  rw [Cert.Attn.negInf, max_eq_right bot_le]
  simp only [he]
  rw [← Cert.Attn.coe_sum, Ideal.div_coe hp.ne', Cert.Attn.sum_mul_real _ _ _ (one_div_pos.2 hp).le]
  refine Finset.sum_congr rfl fun j _ => ?_
  rw [Ideal.div_coe hp.ne', mul_comm ((Real.exp (a j - t) : ℝ) : EReal) (v j), mul_assoc]

theorem head_real (s v : Fin 256 → EReal) (hs : ∀ j, ∃ r : ℝ, s j = r) (hv : ∀ j, ∃ r : ℝ, v j = r) :
    ∃ r : ℝ, headR s v = r := by
  obtain ⟨t, ht⟩ := top_real s hs
  choose a ha using hs
  have he : ∀ j, Ideal.exp (s j - top s) = ((Real.exp (a j - t) : ℝ) : EReal) := fun j => by
    rw [ht, ha, ← EReal.coe_sub]; rfl
  have hp : 0 < ∑ j : Fin 256, Real.exp (a j - t) := Finset.sum_pos (fun j _ => Real.exp_pos _) ⟨0, Finset.mem_univ _⟩
  unfold headR
  rw [Cert.Attn.negInf, max_eq_right bot_le]
  simp only [he]
  rw [← Cert.Attn.coe_sum]
  refine sum_real v _ hv fun j => ?_
  rw [Ideal.div_coe hp.ne', ← EReal.coe_mul]
  exact ⟨_, rfl⟩

/-- Scaling by `1/√128` is dividing by `√128`, and keeps a real finite. -/
theorem root : Ideal.sqrt (Ideal.ofBits FTy.f32 0x43000000#32) = ((Real.sqrt 128 : ℝ) : EReal) := by
  have h : Ideal.ofBits FTy.f32 0x43000000#32 = ((128 : ℝ) : EReal) := by
    simp [Ideal.ofBits, Ideal.ieee]; norm_cast; try norm_num
  rw [h]
  exact if_neg (by norm_num)

theorem scale (x : EReal) : Ideal.div x (Ideal.sqrt (Ideal.ofBits FTy.f32 0x43000000#32)) = x * (((Real.sqrt 128)⁻¹ : ℝ) : EReal) := by
  rw [root, Ideal.div_coe (Real.sqrt_pos.2 (by norm_num)).ne', one_div]

/-- A finite number less itself is zero. -/
theorem sub_self_real (x : EReal) (h : ∃ r : ℝ, x = r) : x - x = 0 := by
  obtain ⟨r, rfl⟩ := h
  rw [← EReal.coe_sub, sub_self, EReal.coe_zero]

/-- A row's queries: the normalised row through the weights. -/
def query (x g : Fin 4096 → EReal) (w : Fin 4096 → Fin 512 → EReal) (e : Fin 512) : EReal := ∑ k, rown x g k * w k e

/-- Head `h`'s query against key `j`: the keys are the first 512 columns, the values the last. -/
def dotq (q : Fin 512 → EReal) (kv : Fin 256 → Fin 1024 → EReal) (h : Fin 4) (j : Fin 256) : EReal :=
  ∑ z : Fin 128, q ⟨h * 128 + z, by omega⟩ * kv j ⟨h * 128 + z, by omega⟩

/-- One row of the attention by the kernel's formula, at the scale `sc`. -/
def attK (sc : EReal) (q : Fin 512 → EReal) (kv : Fin 256 → Fin 1024 → EReal) (e : Fin 512) : EReal :=
  headK (fun j => dotq q kv ⟨e / 128, by omega⟩ j * sc) (fun j => kv j ⟨512 + e, by omega⟩)

/-- One row of the attention by the reference's. -/
def attR (q : Fin 512 → EReal) (kv : Fin 256 → Fin 1024 → EReal) (e : Fin 512) : EReal :=
  headR (fun j => Ideal.div (dotq q kv ⟨e / 128, by omega⟩ j) (Ideal.sqrt (Ideal.ofBits FTy.f32 0x43000000#32)))
    (fun j => kv j ⟨512 + e, by omega⟩)

/-- The row with the projected attention added. -/
def resid (x : Fin 4096 → EReal) (o : Fin 512 → EReal) (w : Fin 512 → Fin 4096 → EReal) (k : Fin 4096) : EReal :=
  x k + ∑ e, o e * w e k

theorem query_real (x g : Fin 4096 → EReal) (w : Fin 4096 → Fin 512 → EReal) (hx : ∀ k, ∃ r : ℝ, x k = r)
    (hg : ∀ k, ∃ r : ℝ, g k = r) (hw : ∀ k e, ∃ r : ℝ, w k e = r) (e : Fin 512) : ∃ r : ℝ, query x g w e = r :=
  sum_real _ _ (rown_real x g hx hg) fun k => hw k e

theorem dotq_real (q : Fin 512 → EReal) (kv : Fin 256 → Fin 1024 → EReal) (hq : ∀ e, ∃ r : ℝ, q e = r)
    (hk : ∀ j e, ∃ r : ℝ, kv j e = r) (h : Fin 4) (j : Fin 256) : ∃ r : ℝ, dotq q kv h j = r :=
  sum_real _ _ (fun _ => hq _) fun _ => hk _ _

theorem score_real (q : Fin 512 → EReal) (kv : Fin 256 → Fin 1024 → EReal) (hq : ∀ e, ∃ r : ℝ, q e = r)
    (hk : ∀ j e, ∃ r : ℝ, kv j e = r) (h : Fin 4) (j : Fin 256) :
    ∃ r : ℝ, dotq q kv h j * (((Real.sqrt 128)⁻¹ : ℝ) : EReal) = r := by
  obtain ⟨r, hr⟩ := dotq_real q kv hq hk h j
  exact ⟨r * (Real.sqrt 128)⁻¹, by rw [hr, EReal.coe_mul]⟩

/-- THE ROW: with finite queries, keys and values both formulas give the same finite row. -/
theorem att_eq (q : Fin 512 → EReal) (kv : Fin 256 → Fin 1024 → EReal) (hq : ∀ e, ∃ r : ℝ, q e = r)
    (hk : ∀ j e, ∃ r : ℝ, kv j e = r) : attK (((Real.sqrt 128)⁻¹ : ℝ) : EReal) q kv = attR q kv := by
  funext e
  unfold attK attR
  simp only [scale]
  exact head_eq _ _ (score_real q kv hq hk _)

theorem att_real (q : Fin 512 → EReal) (kv : Fin 256 → Fin 1024 → EReal) (hq : ∀ e, ∃ r : ℝ, q e = r)
    (hk : ∀ j e, ∃ r : ℝ, kv j e = r) (e : Fin 512) : ∃ r : ℝ, attR q kv e = r := by
  unfold attR
  simp only [scale]
  exact head_real _ _ (score_real q kv hq hk _) fun j => hk _ _

theorem resid_real (x : Fin 4096 → EReal) (o : Fin 512 → EReal) (w : Fin 512 → Fin 4096 → EReal) (hx : ∀ k, ∃ r : ℝ, x k = r)
    (ho : ∀ e, ∃ r : ℝ, o e = r) (hw : ∀ e k, ∃ r : ℝ, w e k = r) (k : Fin 4096) : ∃ r : ℝ, resid x o w k = r := by
  obtain ⟨a, ha⟩ := hx k
  obtain ⟨b, hb⟩ := sum_real o _ ho fun e => hw e k
  exact ⟨a + b, by unfold resid; rw [ha, hb, EReal.coe_add]⟩

end Cert.Cross

end
-- ==== Proof.CrossPoint.lean ====
/- What the memory attention's kernel leaves in a block, read at coordinates of the loaded blocks. -/
module

public import proofs.«01_k».proof.Proof.CrossScalar
public import proofs.«01_k».proof.Proof.Gen.Kernel5Ideal.Frame
public import Idealize.ShloMosaic.Lib.Pointwise
public import Idealize.ShloMosaic.Lib.KernelVsHost
public import Idealize.ShloMosaic.Lib.Pipeline.ValueKit

@[expose] public section

set_option maxRecDepth 16384

noncomputable section

open Idealize.ShloMosaic Idealize.ShloMosaic.TcCoe Idealize.SL.Sem

namespace Cert.Kernel5Ideal.Mem

open Cert.Kernel5Ideal Cert.Kernel5Ideal.Gen Cert.Cross

/-- The kernel's constant `1/√128`. -/
abbrev SC : EReal := Named.named (F := Ideal) (φ := .f32) κ "scale" 0x3DB504F3#32

theorem sc_eq : SC = (((Real.sqrt 128)⁻¹ : ℝ) : EReal) := by
  simp [SC, Named.named, Cert.Kernel5Ideal.κ]

section
variable (x : FVec Ideal S256x4096 .f32) (g : FVec Ideal S1x4096 .f32) (w : FVec Ideal S4096x512 .bf16)
  (q : FVec Ideal S256x512 .bf16) (kb vb : FVec Ideal S1x256x128 .bf16) (a : Fin 256) (d : Fin 128)

theorem query_at (e : Fin 512) :
    k0_pay4 (F := Ideal) x g w (ix2 a e) = query (fun k => x (ix2 a k)) (fun k => g (ix2 0 k)) (fun k e => w (ix2 k e)) e := by
  unfold query rown
  pointwise [k0_pay4]

/-- One head over its loaded keys and values. -/
abbrev headOf (h : Fin 4) : EReal :=
  headK (fun j => (∑ z : Fin 128, q (ix2 a ⟨h * 128 + z, by omega⟩) * kb (ix3 0 j z)) * SC) (fun j => vb (ix3 0 j d))

theorem head0 : k0_pay8 (F := Ideal) (k0_pay6 x g w kb vb) (k0_pay7 x g w kb) (ix2 a d) = headOf (k0_pay4 (F := Ideal) x g w) kb vb a d 0 := by
  unfold headOf headK top
  pointwise [k0_pay8, k0_pay6, k0_pay7, k0_pay5]

theorem head1 : k0_pay9 (F := Ideal) q kb vb (ix2 a d) = headOf q kb vb a d 1 := by
  unfold headOf headK top
  pointwise [k0_pay9]

theorem head2 : Ideal.div (k0_pay11 (F := Ideal) q kb vb (ix2 a d)) (k0_pay12 (F := Ideal) q kb (ix1 a)) = headOf q kb vb a d 2 := by
  unfold headOf headK top
  pointwise [k0_pay11, k0_pay12, k0_pay10]

/-- Four heads side by side, projected and added to the row. -/
theorem join (o0 o1 : FVec Ideal S256x128 .bf16) (n2 : FVec Ideal S256x128 .f32) (d2 : FVec Ideal S256 .f32)
    (wo : FVec Ideal S512x4096 .bf16) (k : Fin 4096) (o : Fin 512 → EReal)
    (h0 : ∀ d : Fin 128, o0 (ix2 a d) = o ⟨0 * 128 + d, by omega⟩)
    (h1 : ∀ d : Fin 128, o1 (ix2 a d) = o ⟨1 * 128 + d, by omega⟩)
    (h2 : ∀ d : Fin 128, Ideal.div (n2 (ix2 a d)) (d2 (ix1 a)) = o ⟨2 * 128 + d, by omega⟩)
    (h3 : ∀ d : Fin 128, headOf q kb vb a d 3 = o ⟨3 * 128 + d, by omega⟩) :
    k0_pay13 (F := Ideal) x q o0 o1 n2 d2 kb vb wo (ix2 a k) = resid (fun k => x (ix2 a k)) o (fun e k => wo (ix2 e k)) k := by
  unfold resid
  pointwise [k0_pay13]
  refine congrArg (x (ix2 a k) + ·) (Finset.sum_congr rfl fun e _ => congrArg (· * wo (ix2 e k)) ?_)
  by_cases c0 : (e : ℕ) < 128
  · rw [dif_pos c0, h0]
    exact congrArg o (Fin.ext (by show 0 * 128 + (e : ℕ) = e; omega))
  · rw [dif_neg c0]
    by_cases c1 : (e : ℕ) - 128 < 128
    · rw [dif_pos c1, h1]
      exact congrArg o (Fin.ext (by show 1 * 128 + ((e : ℕ) - 128) = e; omega))
    · rw [dif_neg c1]
      by_cases c2 : (e : ℕ) - 128 - 128 < 128
      · rw [dif_pos c2, h2]
        exact congrArg o (Fin.ext (by show 2 * 128 + ((e : ℕ) - 128 - 128) = e; omega))
      · rw [dif_neg c2]
        refine (h3 ⟨(e : ℕ) - 128 - 128 - 128, by omega⟩).trans ?_
        exact congrArg o (Fin.ext (by show 3 * 128 + ((e : ℕ) - 128 - 128 - 128) = e; omega))
end

section
variable (x0 : Vec Ideal S256x4096 .f32) (x1 : Vec Ideal S1x4096 .f32) (x2 : Vec Ideal S4096x512 .bf16)
  (x3 : Vec Ideal S1x256x1024 .bf16) (x4 : Vec Ideal S512x4096 .bf16) (x5 : Vec Ideal S1x4096 .f32) (x6 : Vec Ideal S4096x32 .bf16)
  (a : Fin 256)

/-- The attention's row `a` of a block, over the loaded blocks. -/
def ATT (e : Fin 512) : EReal :=
  attK SC (query (fun k => x0 (ix2 a k)) (fun k => x1 (ix2 0 k)) (fun k e => x2 (ix2 k e))) (fun j e => x3 (ix3 0 j e)) e

/-- The row after it. -/
def X2 (k : Fin 4096) : EReal := resid (fun k => x0 (ix2 a k)) (ATT x0 x1 x2 x3 a) (fun e k => x4 (ix2 e k)) k

/-- A head's formula over loaded keys and values is the row's element. -/
theorem head_att (q : FVec Ideal S256x512 .bf16) (kb vb : FVec Ideal S1x256x128 .bf16) (h : Fin 4) (d : Fin 128)
    (hq : ∀ e, q (ix2 a e) = query (fun k => x0 (ix2 a k)) (fun k => x1 (ix2 0 k)) (fun k e => x2 (ix2 k e)) e)
    (hk : ∀ (j : Fin 256) (z : Fin 128), kb (ix3 0 j z) = x3 (ix3 0 j ⟨h * 128 + z, by omega⟩))
    (hv : ∀ (j : Fin 256) (z : Fin 128), vb (ix3 0 j z) = x3 (ix3 0 j ⟨512 + h * 128 + z, by omega⟩)) :
    headOf q kb vb a d h = ATT x0 x1 x2 x3 a ⟨h * 128 + d, by omega⟩ := by
  have e : ((h : ℕ) * 128 + d) / 128 = h := by omega
  unfold headOf ATT attK dotq
  simp only [hq, hk, hv, e, Nat.add_assoc]

theorem x2_at (k : Fin 4096) : k0_pay22 (F := Ideal) x0 x1 x2 x3 x4 x5 x6 (ix2 a k) = X2 x0 x1 x2 x3 x4 a k := by
  unfold k0_pay22 X2
  have l0 : View.ld x0 r0_0 = x0 := by funext i; idx_vars i; pointwise; blk_ext []
  have l1 : View.ld x1 r0_1 = x1 := by funext i; idx_vars i; pointwise; blk_ext []
  have l2 : View.ld x2 r0_2 = x2 := by funext i; idx_vars i; pointwise; blk_ext []
  have l4 : View.ld x4 r0_11 = x4 := by funext i; idx_vars i; pointwise; blk_ext []
  rw [l0, l4]
  have hq : ∀ e, k0_pay17 (F := Ideal) x0 x1 x2 x3 x4 x5 x6 (ix2 a e) = query (fun k => x0 (ix2 a k)) (fun k => x1 (ix2 0 k)) (fun k e => x2 (ix2 k e)) e := by
    intro e
    unfold k0_pay17
    rw [l0, l1, l2, query_at]
  refine join x0 _ _ _ a _ _ _ _ x4 k (ATT x0 x1 x2 x3 a) (fun d => ?_) (fun d => ?_) (fun d => ?_) (fun d => ?_)
  · unfold k0_pay18
    rw [head0]
    refine head_att x0 x1 x2 x3 a _ _ _ 0 d hq (fun j z => ?_) (fun j z => ?_)
    all_goals (pointwise; blk_ext [])
  · unfold k0_pay19
    rw [head1]
    refine head_att x0 x1 x2 x3 a _ _ _ 1 d hq (fun j z => ?_) (fun j z => ?_)
    all_goals (pointwise; blk_ext [])
  · unfold k0_pay20 k0_pay21
    rw [head2]
    refine head_att x0 x1 x2 x3 a _ _ _ 2 d hq (fun j z => ?_) (fun j z => ?_)
    all_goals (pointwise; blk_ext [])
  · refine head_att x0 x1 x2 x3 a _ _ _ 3 d hq (fun j z => ?_) (fun j z => ?_)
    all_goals (pointwise; blk_ext [])

/-- The normalised row. -/
def HM (k : Fin 4096) : EReal := rown (X2 x0 x1 x2 x3 x4 a) (fun k => x5 (ix2 0 k)) k

theorem mean_at : k0_pay24 (F := Ideal) x0 x1 x2 x3 x4 x5 x6 (ix2 a 0)
    = Ideal.div (∑ z, X2 x0 x1 x2 x3 x4 a z * X2 x0 x1 x2 x3 x4 a z) (Ideal.ofBits FTy.f32 0x45800000#32) := by
  have e : k0_pay24 (F := Ideal) x0 x1 x2 x3 x4 x5 x6 (ix2 a 0)
      = Ideal.div (∑ z, k0_pay22 (F := Ideal) x0 x1 x2 x3 x4 x5 x6 (ix2 a z) * k0_pay22 (F := Ideal) x0 x1 x2 x3 x4 x5 x6 (ix2 a z)) (Ideal.ofBits FTy.f32 0x45800000#32) := by
    unfold k0_pay22 k0_pay24
    pointwise [k0_pay15]
  rw [e]
  simp only [x2_at]

theorem pay1_at (v104 : FVec Ideal S256x4096 .f32) (v107 : FVec Ideal S1x4096 .f32) (v112 v113 : FVec Ideal S256x1 .f32) (k : Fin 4096) :
    k0_pay1 (F := Ideal) v104 v107 v112 v113 (ix2 a k) = v104 (ix2 a k) * Ideal.rsqrt (v112 (ix2 a 0) + v113 (ix2 a 0)) * v107 (ix2 0 k) := by
  pointwise [k0_pay1]

theorem hm_at (k : Fin 4096) :
    k0_pay1 (F := Ideal) (k0_pay22 x0 x1 x2 x3 x4 x5 x6) (k0_pay23 x0 x1 x2 x3 x4 x5 x6) (k0_pay24 x0 x1 x2 x3 x4 x5 x6)
      (k0_pay25 x0 x1 x2 x3 x4 x5 x6) (ix2 a k) = HM x0 x1 x2 x3 x4 x5 a k := by
  have h5 : k0_pay23 (F := Ideal) x0 x1 x2 x3 x4 x5 x6 (ix2 0 k) = x5 (ix2 0 k) := by
    unfold k0_pay23; pointwise [k0_pay14]; blk_ext []
  have h6 : k0_pay25 (F := Ideal) x0 x1 x2 x3 x4 x5 x6 (ix2 a 0) = Ideal.ofBits FTy.f32 0x358637BD#32 := by
    unfold k0_pay25; pointwise [k0_pay16]
  rw [pay1_at, x2_at, mean_at, h5, h6]
  rfl

/-- The logits: the rounded row against the weights and their remainders, and the row's remainder against the weights. -/
theorem logit_at (v104 : FVec Ideal S256x4096 .f32) (v107 : FVec Ideal S1x4096 .f32) (v112 v113 : FVec Ideal S256x1 .f32)
    (wr : FVec Ideal S4096x32 .bf16) (wh : FVec Ideal S4096x16 .bf16) (n : Fin 16) :
    k0_pay3 (F := Ideal) v104 v107 v112 v113 wr wh (ix2 a n)
      = (∑ k, k0_pay1 (F := Ideal) v104 v107 v112 v113 (ix2 a k) * wr (ix2 k ⟨n, by omega⟩))
        + (∑ k, k0_pay1 (F := Ideal) v104 v107 v112 v113 (ix2 a k) * wr (ix2 k ⟨16 + n, by omega⟩))
        + ∑ k, (k0_pay1 (F := Ideal) v104 v107 v112 v113 (ix2 a k) - k0_pay1 (F := Ideal) v104 v107 v112 v113 (ix2 a k)) * wh (ix2 k n) := by
  pointwise [k0_pay3, k0_pay2]

/-- What the three output blocks hold, elementwise. -/
theorem out7_at (k : Fin 4096) : out0_7 (F := Ideal) x0 x1 x2 x3 x4 x5 x6 (ix2 a k) = X2 x0 x1 x2 x3 x4 a k := by
  rw [← x2_at x0 x1 x2 x3 x4 x5 x6]
  unfold out0_7 k0_pay22
  frame_out

theorem out8_at (k : Fin 4096) : out0_8 (F := Ideal) x0 x1 x2 x3 x4 x5 x6 (ix2 a k) = HM x0 x1 x2 x3 x4 x5 a k := by
  rw [← hm_at x0 x1 x2 x3 x4 x5 x6]
  unfold out0_8
  frame_out
  pointwise [k0_pay2]

/-- The logits of a row, over the loaded blocks. -/
def LG (n : Fin 16) : EReal :=
  (∑ k, HM x0 x1 x2 x3 x4 x5 a k * x6 (ix2 k ⟨n, by omega⟩))
    + (∑ k, HM x0 x1 x2 x3 x4 x5 a k * x6 (ix2 k ⟨16 + n, by omega⟩))
    + ∑ k, (HM x0 x1 x2 x3 x4 x5 a k - HM x0 x1 x2 x3 x4 x5 a k) * x6 (ix2 k ⟨n, by omega⟩)

theorem out9_at (n : Fin 16) : out0_9 (F := Ideal) x0 x1 x2 x3 x4 x5 x6 (ix2 a n) = LG x0 x1 x2 x3 x4 x5 x6 a n := by
  have l7 : ∀ k : Fin 4096, View.ld x6 r0_13 (ix2 k n) = x6 (ix2 k ⟨n, by omega⟩) := fun k => by pointwise; blk_ext []
  unfold out0_9 LG
  frame_out
  rw [logit_at]
  simp only [hm_at, l7]

end

end Cert.Kernel5Ideal.Mem

end
-- ==== Proof.CrossRef.lean ====
/- The memory attention's reference as a chain of named stages, each read at coordinates of the argument arrays. -/
module

public import proofs.«01_k».proof.Proof.CrossScalar
public import proofs.«01_k».proof.Proof.Ref
public import proofs.«01_k».proof.Proof.Gen.Reference5Ideal.Run
public import Idealize.ShloMosaic.Lib.KernelVsHost
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Reference5Ideal.Mem

open Cert.Reference5Ideal Cert.Reference5Ideal.Gen Cert.Cross

/-- The root-mean-square normalisation of each row. -/
def NORM (Y : FVec Ideal S2x8192x4096 .f32) (G : FVec Ideal S4096 .f32) : FVec Ideal S2x8192x4096 .f32 :=
  mulf (mulf Y (broadcastInDim S2x8192x4096 ![0, 1, 2] bcast_S2x8192x1_S2x8192x4096_0_1_2 (Host.rsqrt (addf (Host.divf (broadcastInDim S2x8192x1 ![0, 1] bcast_S2x8192_S2x8192x1_0_1 (Host.reduceAdd (mulf Y Y) (constant S_ .f32 0x00000000#32) reducesTo_S2x8192x4096_S2x8192_d2 h_S_)) (broadcastInDim S2x8192x1 ![] bcast_S_S2x8192x1 (constant S_ .f32 0x45800000#32))) (broadcastInDim S2x8192x1 ![] bcast_S_S2x8192x1 (constant S_ .f32 0x358637BD#32)))))) (broadcastInDim S2x8192x4096 ![0, 1, 2] bcast_S1x1x4096_S2x8192x4096_0_1_2 (broadcastInDim S1x1x4096 ![2] bcast_S4096_S1x1x4096_2 G))

/-- The rows per sequence. -/
def XS (X : FVec Ideal S16384x4096 .f32) : FVec Ideal S2x8192x4096 .f32 := shapeCast _ X shapeCasts_S16384x4096_S2x8192x4096

/-- The queries. -/
def QU (X : FVec Ideal S16384x4096 .f32) (G : FVec Ideal S4096 .f32) (W : FVec Ideal S4096x512 .f32) : FVec Ideal S2x8192x512 .f32 :=
  Host.dotGeneral dot_S2x8192x4096_S4096x512_S2x8192x512_2_0_01_1_n_n none (NORM (XS X) G) W

/-- The scaled scores from queries and keys. -/
def SCORE (Q : FVec Ideal S2x8192x512 .f32) (KV : FVec Ideal S2x256x1024 .bf16) : FVec Ideal S2x4x8192x256 .f32 :=
  Host.divf (Host.dotGeneral dot_S2x8192x4x128_S2x256x4x128_S2x4x8192x256_3_3_1_1_02_02 none (shapeCast _ Q shapeCasts_S2x8192x512_S2x8192x4x128) (shapeCast _ (extractStridedSlice S2x256x512 ![0, 0, 0] (extf .f32 KV bitsLt_bf16_f32) slices_S2x256x1024_S2x256x512_0_0_0) shapeCasts_S2x256x512_S2x256x4x128)) (broadcastInDim S2x4x8192x256 ![] bcast_S_S2x4x8192x256 (Host.sqrt (constant S_ .f32 0x43000000#32)))

/-- The largest score of each row. -/
def TOP (S : FVec Ideal S2x4x8192x256 .f32) : FVec Ideal S2x4x8192 .f32 :=
  maximumf (broadcastInDim S2x4x8192 ![] bcast_S_S2x4x8192 (constant S_ .f32 0xFF800000#32)) (Host.reduce FloatOps.maximumf S (constant S_ .f32 0xFF800000#32) reducesTo_S2x4x8192x256_S2x4x8192_d3 h_S_)

/-- The exponentials. -/
def PE (S : FVec Ideal S2x4x8192x256 .f32) : FVec Ideal S2x4x8192x256 .f32 :=
  Host.exp (subf S (broadcastInDim S2x4x8192x256 ![0, 1, 2, 3] bcast_S2x4x8192x1_S2x4x8192x256_0_1_2_3 (broadcastInDim S2x4x8192x1 ![0, 1, 2] bcast_S2x4x8192_S2x4x8192x1_0_1_2 (TOP S))))

/-- The weights. -/
def PR (S : FVec Ideal S2x4x8192x256 .f32) : FVec Ideal S2x4x8192x256 .f32 :=
  Host.divf (PE S) (broadcastInDim S2x4x8192x256 ![0, 1, 2, 3] bcast_S2x4x8192x1_S2x4x8192x256_0_1_2_3 (broadcastInDim S2x4x8192x1 ![0, 1, 2] bcast_S2x4x8192_S2x4x8192x1_0_1_2 (Host.reduceAdd (PE S) (constant S_ .f32 0x00000000#32) reducesTo_S2x4x8192x256_S2x4x8192_d3 h_S_)))

/-- The attention: the values weighted. -/
def ATT (S : FVec Ideal S2x4x8192x256 .f32) (KV : FVec Ideal S2x256x1024 .bf16) : FVec Ideal S2x8192x512 .f32 :=
  shapeCast _ (transpose S2x8192x4x128 [0, 3, 1, 2] (Host.dotGeneral dot_S2x256x4x128_S2x4x8192x256_S2x4x128x8192_1_3_3_2_02_01 none (shapeCast _ (extractStridedSlice S2x256x512 ![0, 0, 512] (extf .f32 KV bitsLt_bf16_f32) slices_S2x256x1024_S2x256x512_0_0_512) shapeCasts_S2x256x512_S2x256x4x128) (PR S)) transposes_S2x4x128x8192_S2x8192x4x128_0_3_1_2) shapeCasts_S2x8192x4x128_S2x8192x512

/-- The rows after the attention. -/
def Y (X : FVec Ideal S16384x4096 .f32) (G : FVec Ideal S4096 .f32) (W : FVec Ideal S4096x512 .f32) (KV : FVec Ideal S2x256x1024 .bf16)
    (WO : FVec Ideal S512x4096 .f32) : FVec Ideal S2x8192x4096 .f32 :=
  addf (XS X) (Host.dotGeneral dot_S2x8192x512_S512x4096_S2x8192x4096_2_0_01_1_n_n none (ATT (SCORE (QU X G W) KV) KV) WO)

/-- The three results. -/
def RES0 (X : FVec Ideal S16384x4096 .f32) (G : FVec Ideal S4096 .f32) (W : FVec Ideal S4096x512 .f32) (KV : FVec Ideal S2x256x1024 .bf16)
    (WO : FVec Ideal S512x4096 .f32) : FVec Ideal S16384x4096 .f32 :=
  shapeCast _ (Y X G W KV WO) shapeCasts_S2x8192x4096_S16384x4096
def RES1 (X : FVec Ideal S16384x4096 .f32) (G : FVec Ideal S4096 .f32) (W : FVec Ideal S4096x512 .f32) (KV : FVec Ideal S2x256x1024 .bf16)
    (WO : FVec Ideal S512x4096 .f32) (G' : FVec Ideal S4096 .f32) : FVec Ideal S16384x4096 .bf16 :=
  truncf .bf16 (shapeCast _ (NORM (Y X G W KV WO) G') shapeCasts_S2x8192x4096_S16384x4096) bitsLt_bf16_f32
def RES2 (X : FVec Ideal S16384x4096 .f32) (G : FVec Ideal S4096 .f32) (W : FVec Ideal S4096x512 .f32) (KV : FVec Ideal S2x256x1024 .bf16)
    (WO : FVec Ideal S512x4096 .f32) (G' : FVec Ideal S4096 .f32) (WR : FVec Ideal S4096x16 .f32) : FVec Ideal S16384x16 .f32 :=
  shapeCast _ (Host.dotGeneral dot_S2x8192x4096_S4096x16_S2x8192x16_2_0_01_1_n_n none (NORM (Y X G W KV WO) G') WR) shapeCasts_S2x8192x16_S16384x16

section
variable (m : (ℓ : Loc nD τ sig) → Buf (Elt Ideal) ℓ) (c : Dev nD)

set_option maxHeartbeats 1000000 in
theorem res0_eq : Value.res_main_v55 m c = RES0 (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  unfold Value.res_main_v55 RES0 Y ATT PR PE TOP SCORE QU XS NORM
  rfl
set_option maxHeartbeats 1000000 in
theorem res1_eq : Value.res_main_v57 m c = RES1 (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) := by
  unfold Value.res_main_v57 RES1 Y ATT PR PE TOP SCORE QU XS NORM
  rfl
set_option maxHeartbeats 1000000 in
theorem res2_eq : Value.res_main_v58 m c = RES2 (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) := by
  unfold Value.res_main_v58 RES2 Y ATT PR PE TOP SCORE QU XS NORM
  rfl
end

section
variable (b : Fin 2) (r : Fin 8192) (h : Fin 4) (j : Fin 256) (d : Fin 128)

theorem norm_at (Y : FVec Ideal S2x8192x4096 .f32) (G : FVec Ideal S4096 .f32) (k : Fin 4096) :
    NORM Y G (ix3 b r k) = rown (fun k => Y (ix3 b r k)) (fun k => G (ix1 k)) k := by
  unfold rown
  pointwise [NORM]

theorem score_at (Q : FVec Ideal S2x8192x512 .f32) (KV : FVec Ideal S2x256x1024 .bf16) :
    SCORE Q KV (ix4 b h r j) = Ideal.div (dotq (fun e => Q (ix3 b r e)) (fun j e => KV (ix3 b j e)) h j)
      (Ideal.sqrt (Ideal.ofBits FTy.f32 0x43000000#32)) := by
  unfold dotq
  pointwise [SCORE]

theorem reduces : Shape.Reduces S2x4x8192x256 [3] S2x4x8192 := by decide

theorem lift_at (k : Fin 256) : reduces.lift (ix3 b h r) k = ix4 b h r k := by
  funext i
  apply Fin.ext
  match i with
  | ⟨0, _⟩ => rfl
  | ⟨1, _⟩ => rfl
  | ⟨2, _⟩ => rfl
  | ⟨3, _⟩ => rfl

theorem hostmax_at (S : FVec Ideal S2x4x8192x256 .f32) :
    Host.reduce FloatOps.maximumf S (constant (F := Ideal) S_ .f32 0xFF800000#32) reducesTo_S2x4x8192x256_S2x4x8192_d3 h_S_ (ix3 b h r)
      = top fun k : Fin 256 => S (ix4 b h r k) := by
  exact (Cert.ReferenceIdeal.Attn.hostmax_single S _ h_S_ reduces _).trans
    (congrArg (Finset.fold max _ · _) (funext fun k => congrArg S (lift_at b r h k)))

theorem top_at (S : FVec Ideal S2x4x8192x256 .f32) :
    TOP S (ix3 b h r) = max (Ideal.ofBits FTy.f32 4286578688#32) (top fun k : Fin 256 => S (ix4 b h r k)) := by
  rw [TOP, Cert.ReferenceIdeal.Attn.max_at, hostmax_at]
  rfl

theorem pe_at (S : FVec Ideal S2x4x8192x256 .f32) : PE S (ix4 b h r j) = Ideal.exp (S (ix4 b h r j)
      - max (Ideal.ofBits FTy.f32 4286578688#32) (top fun k : Fin 256 => S (ix4 b h r k))) := by
  rw [← top_at]
  pointwise [PE]

theorem pr_at (S : FVec Ideal S2x4x8192x256 .f32) :
    PR S (ix4 b h r j) = Ideal.div (PE S (ix4 b h r j)) (∑ k, PE S (ix4 b h r k)) := by
  pointwise [PR]

theorem att_at (S : FVec Ideal S2x4x8192x256 .f32) (KV : FVec Ideal S2x256x1024 .bf16) (e : Fin 512) :
    ATT S KV (ix3 b r e) = headR (fun j => S (ix4 b ⟨e / 128, by omega⟩ r j)) (fun j => KV (ix3 b j ⟨512 + e, by omega⟩)) := by
  unfold headR
  simp only [← pe_at]
  simp only [← pr_at]
  pointwise [ATT]
end

section
variable (X : FVec Ideal S16384x4096 .f32) (G : FVec Ideal S4096 .f32) (W : FVec Ideal S4096x512 .f32) (KV : FVec Ideal S2x256x1024 .bf16)
  (WO : FVec Ideal S512x4096 .f32) (G' : FVec Ideal S4096 .f32) (WR : FVec Ideal S4096x16 .f32) (R : Fin 16384)

/-- Row `R`'s queries, its attention, the row after it, and that row normalised. -/
def rowQ : Fin 512 → EReal := query (fun k => X (ix2 R k)) (fun k => G (ix1 k)) (fun k e => W (ix2 k e))
def rowO : Fin 512 → EReal := attR (rowQ X G W R) (fun j e => KV (ix3 ⟨R / 8192, by omega⟩ j e))
def rowY : Fin 4096 → EReal := resid (fun k => X (ix2 R k)) (rowO X G W KV R) (fun e k => WO (ix2 e k))
def rowH : Fin 4096 → EReal := rown (rowY X G W KV WO R) (fun k => G' (ix1 k))

theorem xs_at (k : Fin 4096) : XS X (ix3 ⟨R / 8192, by omega⟩ ⟨R % 8192, by omega⟩ k) = X (ix2 R k) := by
  pointwise [XS]

theorem qu_at (e : Fin 512) : QU X G W (ix3 ⟨R / 8192, by omega⟩ ⟨R % 8192, by omega⟩ e) = rowQ X G W R e := by
  unfold rowQ query
  pointwise [QU]
  simp only [norm_at, xs_at]

theorem y_at (k : Fin 4096) : Y X G W KV WO (ix3 ⟨R / 8192, by omega⟩ ⟨R % 8192, by omega⟩ k) = rowY X G W KV WO R k := by
  unfold rowY resid rowO attR
  pointwise [Y]
  simp only [att_at, xs_at, score_at, qu_at]

theorem res0_at (k : Fin 4096) : RES0 X G W KV WO (ix2 R k) = rowY X G W KV WO R k := by
  rw [← y_at]
  pointwise [RES0]

theorem h_at (k : Fin 4096) : NORM (Y X G W KV WO) G' (ix3 ⟨R / 8192, by omega⟩ ⟨R % 8192, by omega⟩ k) = rowH X G W KV WO G' R k := by
  rw [norm_at]
  simp only [y_at]
  rfl

theorem res1_at (k : Fin 4096) : RES1 X G W KV WO G' (ix2 R k) = rowH X G W KV WO G' R k := by
  rw [← h_at]
  pointwise [RES1]

theorem res2_at (n : Fin 16) : RES2 X G W KV WO G' WR (ix2 R n) = ∑ k, rowH X G W KV WO G' R k * WR (ix2 k n) := by
  simp only [← h_at]
  pointwise [RES2]
end

end Cert.Reference5Ideal.Mem

end
-- ==== Proof.CrossFinal.lean ====
/- The memory attention: the three arrays the kernel leaves are the reference's, for finite arguments. -/
module

public import proofs.«01_k».proof.Proof.CrossPoint
public import proofs.«01_k».proof.Proof.CrossRef
public import proofs.«01_k».proof.Proof.Final
public import proofs.«01_k».proof.Proof.Gen.Pre_finite_inputs5

@[expose] public section

set_option maxRecDepth 16384

noncomputable section

open Idealize.ShloMosaic Idealize.ShloMosaic.TcCoe Idealize.SL.Sem
open Idealize.ShloMosaic.Pipeline (Dat)

namespace Cert.Kernel5Ideal.Mem

open Cert.Kernel5Ideal Cert.Kernel5Ideal.Gen Cert.Cross
open Cert.Reference5Ideal.Mem (rowQ rowO rowY rowH RES0 RES1 RES2)
variable (m : (ℓ : Loc nD τ sig) → Buf (Elt Ideal) ℓ) (c : Dev nD)

/-! ## The precondition -/

instance : Subsingleton Cert.Pre_finite_inputs5.S_.Idx := ⟨fun a b => funext fun i => i.elim0⟩

/-- The precondition read back: every element of the seven arguments is finite. -/
theorem finite_of_pre [Cert.Pre_finite_inputs5.Facts] (X : FVec Ideal S16384x4096 .f32) (G : FVec Ideal S4096 .f32)
    (W : FVec Ideal S4096x512 .f32) (KV : FVec Ideal S2x256x1024 .bf16) (WO : FVec Ideal S512x4096 .f32)
    (G' : FVec Ideal S4096 .f32) (WR : FVec Ideal S4096x16 .f32) (h : Cert.Pre_finite_inputs5.fn X G W KV WO G' WR = fun _ => 1#1) :
    (∀ i, ∃ r : ℝ, X i = (r : EReal)) ∧ (∀ i, ∃ r : ℝ, G i = (r : EReal)) ∧ (∀ i, ∃ r : ℝ, W i = (r : EReal))
      ∧ (∀ i, ∃ r : ℝ, KV i = (r : EReal)) ∧ (∀ i, ∃ r : ℝ, WO i = (r : EReal)) ∧ (∀ i, ∃ r : ℝ, G' i = (r : EReal))
      ∧ (∀ i, ∃ r : ℝ, WR i = (r : EReal)) := by
  obtain ⟨e, e6⟩ := Cert.Attn.andi_one _ _ (congrFun h ix0)
  obtain ⟨e, e5⟩ := Cert.Attn.andi_one _ _ e
  obtain ⟨e, e4⟩ := Cert.Attn.andi_one _ _ e
  obtain ⟨e, e3⟩ := Cert.Attn.andi_one _ _ e
  obtain ⟨e, e2⟩ := Cert.Attn.andi_one _ _ e
  obtain ⟨e0, e1⟩ := Cert.Attn.andi_one _ _ e
  exact ⟨fun i => Cert.Attn.real_of_lt _ (Host.reduce_andi_all _ _ _ _ _ e0 i),
    fun i => Cert.Attn.real_of_lt _ (Host.reduce_andi_all _ _ _ _ _ e1 i),
    fun i => Cert.Attn.real_of_lt _ (Host.reduce_andi_all _ _ _ _ _ e2 i),
    fun i => Cert.Attn.real_of_lt _ (Host.reduce_andi_all _ _ _ _ _ e3 i),
    fun i => Cert.Attn.real_of_lt _ (Host.reduce_andi_all _ _ _ _ _ e4 i),
    fun i => Cert.Attn.real_of_lt _ (Host.reduce_andi_all _ _ _ _ _ e5 i),
    fun i => Cert.Attn.real_of_lt _ (Host.reduce_andi_all _ _ _ _ _ e6 i)⟩

/-! ## The blocks -/

/-- The arguments as the launch finds them. -/
abbrev X : FVec Ideal S16384x4096 .f32 := m ((c : Thread nD τ).loc main_arg0)
abbrev G : FVec Ideal S4096 .f32 := m ((c : Thread nD τ).loc main_arg1)
abbrev W : FVec Ideal S4096x512 .f32 := m ((c : Thread nD τ).loc main_arg2)
abbrev KV : FVec Ideal S2x256x1024 .bf16 := m ((c : Thread nD τ).loc main_arg3)
abbrev WO : FVec Ideal S512x4096 .f32 := m ((c : Thread nD τ).loc main_arg4)
abbrev G' : FVec Ideal S4096 .f32 := m ((c : Thread nD τ).loc main_arg5)
abbrev WR : FVec Ideal S4096x16 .f32 := m ((c : Thread nD τ).loc main_arg6)

/-- Every window's block index at every point. -/
theorem idx : ∀ t : Fin cfg0.N, win0_0.index t = ![t.val, 0] ∧ win0_1.index t = ![0, 0] ∧ win0_2.index t = ![0, 0]
    ∧ win0_3.index t = ![t.val / 32, 0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] :=
  (by decide +kernel : ∀ t : Fin grid0.N, _)

theorem t_lt (t : Fin cfg0.N) : t.val < 64 := lt_of_lt_of_eq t.isLt N_0

section
variable (t : Fin cfg0.N)

/-- The array's row that row `a` of block `t` is. -/
abbrev row (a : Fin 256) : Fin 16384 := ⟨t.val * 256 + a, by have := t_lt t; omega⟩

theorem b0_at (a : Fin 256) (k : Fin 4096) : (iblk m c 0 t : FVec Ideal S256x4096 .f32) (ix2 a k) = X m c (ix2 (row t a) k) := by
  blk_ext [iblk, V, idx t]
theorem b1_at (k : Fin 4096) : (iblk m c 1 t : FVec Ideal S1x4096 .f32) (ix2 0 k) = G m c (ix1 k) := by
  have e : (V m c main_v7 : FVec Ideal S1x4096 .f32) (ix2 0 k) = G m c (ix1 k) := by entry_read; pointwise
  rw [← e]
  blk_ext [iblk, idx t]
theorem b2_at (k : Fin 4096) (e : Fin 512) : (iblk m c 2 t : FVec Ideal S4096x512 .bf16) (ix2 k e) = W m c (ix2 k e) := by
  have e : (V m c main_v4 : FVec Ideal S4096x512 .bf16) (ix2 k e) = W m c (ix2 k e) := by entry_read; pointwise
  rw [← e]
  blk_ext [iblk, idx t]
theorem b3_at (a : Fin 256) (j : Fin 256) (e : Fin 1024) : (iblk m c 3 t : FVec Ideal S1x256x1024 .bf16) (ix3 0 j e)
    = KV m c (ix3 ⟨(row t a : ℕ) / 8192, by omega⟩ j e) := by
  have h : (⟨(row t a : ℕ) / 8192, by omega⟩ : Fin 2) = ⟨t.val / 32, by have := t_lt t; omega⟩ :=
    Fin.ext (by show (t.val * 256 + (a : ℕ)) / 8192 = t.val / 32; omega)
  rw [h]
  blk_ext [iblk, V, idx t]
theorem b4_at (e : Fin 512) (k : Fin 4096) : (iblk m c 4 t : FVec Ideal S512x4096 .bf16) (ix2 e k) = WO m c (ix2 e k) := by
  have e : (V m c main_v5 : FVec Ideal S512x4096 .bf16) (ix2 e k) = WO m c (ix2 e k) := by entry_read; pointwise
  rw [← e]
  blk_ext [iblk, idx t]
theorem b5_at (k : Fin 4096) : (iblk m c 5 t : FVec Ideal S1x4096 .f32) (ix2 0 k) = G' m c (ix1 k) := by
  have e : (V m c main_v8 : FVec Ideal S1x4096 .f32) (ix2 0 k) = G' m c (ix1 k) := by entry_read; pointwise
  rw [← e]
  blk_ext [iblk, idx t]
/-- The router's weights, and their remainders: a weight less itself. -/
theorem b6_hi (k : Fin 4096) (n : Fin 16) : (iblk m c 6 t : FVec Ideal S4096x32 .bf16) (ix2 k ⟨n, by omega⟩) = WR m c (ix2 k n) := by
  have e : (V m c main_v6 : FVec Ideal S4096x32 .bf16) (ix2 k ⟨n, by omega⟩) = WR m c (ix2 k n) := by
    entry_read; pointwise
  rw [← e]
  blk_ext [iblk, idx t]
theorem b6_lo (k : Fin 4096) (n : Fin 16) : (iblk m c 6 t : FVec Ideal S4096x32 .bf16) (ix2 k ⟨16 + n, by omega⟩)
    = (WR m c (ix2 k n) - WR m c (ix2 k n) : EReal) := by
  have e : (V m c main_v6 : FVec Ideal S4096x32 .bf16) (ix2 k ⟨16 + n, by omega⟩) = (WR m c (ix2 k n) - WR m c (ix2 k n) : EReal) := by
    entry_read; pointwise
  rw [← e]
  blk_ext [iblk, idx t]

/-- Every element of the array is a real number. -/
abbrev AllReal {s : Shape} {φ : FTy} (A : FVec Ideal s φ) : Prop := ∀ i, ∃ r : ℝ, A i = (r : EReal)

variable (hX : AllReal (X m c)) (hG : AllReal (G m c)) (hW : AllReal (W m c)) (hKV : AllReal (KV m c)) (hWO : AllReal (WO m c))
  (hG' : AllReal (G' m c)) (hWR : AllReal (WR m c)) (a : Fin 256)

include hX hG hW hKV in
/-- The blocks' row is the reference's row: after the attention, -/
theorem x2_eq : X2 (iblk m c 0 t) (iblk m c 1 t) (iblk m c 2 t) (iblk m c 3 t) (iblk m c 4 t) a
    = rowY (X m c) (G m c) (W m c) (KV m c) (WO m c) (row t a) := by
  funext k
  unfold X2 rowY ATT rowO
  simp only [b0_at, b1_at, b2_at, b3_at m c t a, b4_at, sc_eq]
  have hq : ∀ e, ∃ r : ℝ, rowQ (X m c) (G m c) (W m c) (row t a) e = (r : EReal) :=
    query_real _ _ _ (fun _ => hX _) (fun _ => hG _) fun _ _ => hW _
  rw [← att_eq _ _ hq fun _ _ => hKV _]
  rfl

include hX hG hW hKV in
/-- and normalised. -/
theorem hm_eq : HM (iblk m c 0 t) (iblk m c 1 t) (iblk m c 2 t) (iblk m c 3 t) (iblk m c 4 t) (iblk m c 5 t) a
    = rowH (X m c) (G m c) (W m c) (KV m c) (WO m c) (G' m c) (row t a) := by
  funext k
  unfold HM rowH
  rw [x2_eq m c t hX hG hW hKV]
  simp only [b5_at]

include hX hG hW hKV hWO hG' in
theorem rowH_real (R : Fin 16384) (k : Fin 4096) : ∃ r : ℝ, rowH (X m c) (G m c) (W m c) (KV m c) (WO m c) (G' m c) R k = (r : EReal) :=
  rown_real _ _ (resid_real _ _ _ (fun _ => hX _)
    (att_real _ _ (query_real _ _ _ (fun _ => hX _) (fun _ => hG _) fun _ _ => hW _) fun _ _ => hKV _) fun _ _ => hWO _) (fun _ => hG' _) k

include hX hG hW hKV hWO hG' hWR in
/-- The remainders are zero, so the logits are the normalised row against the weights. -/
theorem lg_eq (n : Fin 16) : LG (iblk m c 0 t) (iblk m c 1 t) (iblk m c 2 t) (iblk m c 3 t) (iblk m c 4 t) (iblk m c 5 t) (iblk m c 6 t) a n
    = ∑ k, rowH (X m c) (G m c) (W m c) (KV m c) (WO m c) (G' m c) (row t a) k * WR m c (ix2 k n) := by
  unfold LG
  rw [hm_eq m c t hX hG hW hKV]
  simp only [b6_hi, b6_lo, sub_self_real _ (hWR _), sub_self_real _ (rowH_real m c hX hG hW hKV hWO hG' _ _), mul_zero, zero_mul,
    Finset.sum_const_zero, add_zero]

/-! ## The arrays after the run -/

theorem pos7 (k : Fin 4096) : ((View.whole main_v9_0).slice (win0_7.rect t)).emb (ix2 a k) = (ix2 (row t a) k : S16384x4096.Idx) := by
  blk_ext [idx t]
theorem pos8 (k : Fin 4096) : ((View.whole main_v9_1).slice (win0_8.rect t)).emb (ix2 a k) = (ix2 (row t a) k : S16384x4096.Idx) := by
  blk_ext [idx t]
theorem pos9 (n : Fin 16) : ((View.whole main_v9_2).slice (win0_9.rect t)).emb (ix2 a n) = (ix2 (row t a) n : S16384x16.Idx) := by
  blk_ext [idx t]
end

section
variable (hX : AllReal (X m c)) (hG : AllReal (G m c)) (hW : AllReal (W m c)) (hKV : AllReal (KV m c)) (hWO : AllReal (WO m c))
  (hG' : AllReal (G' m c)) (hWR : AllReal (WR m c))

include hX hG hW hKV in
theorem final7 : (dats m 0 c).arrAt 7 (cfgs 0).N = RES0 (X m c) (G m c) (W m c) (KV m c) (WO m c) := by
  refine (dats m 0 c).arrAt_eq_of_covers 7 _ (by decide +kernel) fun t _ y => ?_
  blk_simp
  rw [after0_7]
  idx_vars y
  rw [out7_at, pos7, Cert.Reference5Ideal.Mem.res0_at, x2_eq m c t hX hG hW hKV]

include hX hG hW hKV in
theorem final8 : (dats m 0 c).arrAt 8 (cfgs 0).N = RES1 (X m c) (G m c) (W m c) (KV m c) (WO m c) (G' m c) := by
  refine (dats m 0 c).arrAt_eq_of_covers 8 _ (by decide +kernel) fun t _ y => ?_
  blk_simp
  rw [after0_8]
  idx_vars y
  rw [out8_at, pos8, Cert.Reference5Ideal.Mem.res1_at, hm_eq m c t hX hG hW hKV]

include hX hG hW hKV hWO hG' hWR in
theorem final9 : (dats m 0 c).arrAt 9 (cfgs 0).N = RES2 (X m c) (G m c) (W m c) (KV m c) (WO m c) (G' m c) (WR m c) := by
  refine (dats m 0 c).arrAt_eq_of_covers 9 _ (by decide +kernel) fun t _ y => ?_
  blk_simp
  rw [after0_9]
  idx_vars y
  rw [out9_at, pos9, Cert.Reference5Ideal.Mem.res2_at, lg_eq m c t hX hG hW hKV hWO hG' hWR]
end

end Cert.Kernel5Ideal.Mem

end
-- ==== Proof.MemKv.lean ====
/- The keys and values of the memory: the array the kernel leaves is the reference's. -/
module

public import proofs.«01_k».proof.Proof.CrossScalar
public import proofs.«01_k».proof.Proof.Gen.Kernel6Ideal.Frame
public import proofs.«01_k».proof.Proof.Gen.Reference6Ideal
public import Idealize.ShloMosaic.Lib.Pointwise
public import Idealize.ShloMosaic.Lib.KernelVsHost
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel6Ideal.MemKv

open Cert.Kernel6Ideal Cert.Kernel6Ideal.Gen Cert.Cross
variable (m : (ℓ : Loc nD τ sig) → Buf (Elt Ideal) ℓ) (c : Dev nD)

section
open Cert.Reference6Ideal Cert.Reference6Ideal.Gen

/-- The mean of the squares of each row, in the reference. -/
abbrev MS (X : FVec Ideal S512x4096 .f32) : FVec Ideal S512 .f32 :=
  Host.reduceAdd (mulf X X) (constant S_ .f32 0x00000000#32) reducesTo_S512x4096_S512_d1 h_S_

/-- The reference's result over its three arguments. -/
def REF (X : FVec Ideal S512x4096 .f32) (G : FVec Ideal S4096 .f32) (W : FVec Ideal S4096x1024 .f32) : FVec Ideal S512x1024 .bf16 :=
  truncf .bf16 (Host.dotGeneral dot_S512x4096_S4096x1024_S512x1024_1_0_0_1_n_n none (mulf (mulf X (broadcastInDim S512x4096 ![0, 1] bcast_S512x1_S512x4096_0_1 (Host.rsqrt (addf (Host.divf (broadcastInDim S512x1 ![0] bcast_S512_S512x1_0 (MS X)) (broadcastInDim S512x1 ![] bcast_S_S512x1 (constant S_ .f32 0x45800000#32))) (broadcastInDim S512x1 ![] bcast_S_S512x1 (constant S_ .f32 0x358637BD#32)))))) (broadcastInDim S512x4096 ![0, 1] bcast_S1x4096_S512x4096_0_1 (broadcastInDim S1x4096 ![1] bcast_S4096_S1x4096_1 G))) W) Cert.Reference6Ideal.Gen.bitsLt_bf16_f32

theorem ms_at (X : FVec Ideal S512x4096 .f32) (a : Fin 512) : MS X (ix1 a) = ∑ k : Fin 4096, X (ix2 a k) * X (ix2 a k) := by
  pointwise [MS]

theorem ref_at (X : FVec Ideal S512x4096 .f32) (G : FVec Ideal S4096 .f32) (W : FVec Ideal S4096x1024 .f32) (a : Fin 512) (b : Fin 1024) :
    REF X G W (ix2 a b) = ∑ k, rown (fun k => X (ix2 a k)) (fun k => G (ix1 k)) k * W (ix2 k b) := by
  unfold rown
  pointwise [REF, MS]
end

/-- The kernel's payload at a point. -/
theorem pay_at (x : FVec Ideal S512x4096 .f32) (g : FVec Ideal S1x4096 .f32) (w : FVec Ideal S4096x512 .bf16) (a : Fin 512) (b : Fin 512) :
    k0_pay1 (F := Ideal) x g w (ix2 a b) = ∑ k, rown (fun k => x (ix2 a k)) (fun k => g (ix2 0 k)) k * w (ix2 k b) := by
  unfold rown
  pointwise [k0_pay1]

/-- Every window's block index at every point. -/
theorem idx : ∀ t : Fin cfg0.N, win0_0.index t = ![0, 0] ∧ win0_1.index t = ![0, 0]
    ∧ win0_2.index t = ![0, t.val] ∧ win0_3.index t = ![0, t.val] :=
  (by decide +kernel : ∀ t : Fin grid0.N, _)

theorem t_lt (t : Fin cfg0.N) : t.val < 2 := lt_of_lt_of_eq t.isLt N_0

theorem gain_at (k : Fin 4096) : (V m c main_v1 : FVec Ideal S1x4096 .f32) (ix2 0 k)
    = (m ((c : Thread nD τ).loc main_arg1) : FVec Ideal S4096 .f32) (ix1 k) := by
  entry_read
  pointwise

theorem weight_at (k : Fin 4096) (b : Fin 1024) : (V m c main_v0 : FVec Ideal S4096x1024 .bf16) (ix2 k b)
    = (m ((c : Thread nD τ).loc main_arg2) : FVec Ideal S4096x1024 .f32) (ix2 k b) := by
  entry_read
  pointwise

theorem x_at (t : Fin cfg0.N) (a : Fin 512) (k : Fin 4096) : (iblk m c 0 t : FVec Ideal S512x4096 .f32) (ix2 a k)
    = (m ((c : Thread nD τ).loc main_arg0) : FVec Ideal S512x4096 .f32) (ix2 a k) := by
  blk_ext [iblk, V, idx t]
theorem g_at (t : Fin cfg0.N) (k : Fin 4096) : (iblk m c 1 t : FVec Ideal S1x4096 .f32) (ix2 0 k)
    = (V m c main_v1 : FVec Ideal S1x4096 .f32) (ix2 0 k) := by
  blk_ext [iblk, idx t]
theorem w_at (t : Fin cfg0.N) (k : Fin 4096) (b : Fin 512) : (iblk m c 2 t : FVec Ideal S4096x512 .bf16) (ix2 k b)
    = (V m c main_v0 : FVec Ideal S4096x1024 .bf16) (ix2 k ⟨t.val * 512 + b, by have := t_lt t; omega⟩) := by
  blk_ext [iblk, idx t]

theorem sum_eq (x g g' : Fin 4096 → EReal) (w w' : Fin 4096 → EReal) (hg : ∀ k, g k = g' k) (hw : ∀ k, w k = w' k) :
    ∑ k, rown x g k * w k = ∑ k, rown x g' k * w' k := by
  rw [funext hg, funext hw]

theorem pos (t : Fin cfg0.N) (a b : Fin 512) : ((View.whole main_v2).slice (win0_3.rect t)).emb (ix2 a b)
    = (ix2 a ⟨t.val * 512 + b, by have := t_lt t; omega⟩ : S512x1024.Idx) := by
  blk_ext [idx t]

/-- THE ARRAY after the run. -/
theorem final : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have ht := t_lt t
  unfold out0_3
  frame_out
  idx_vars y
  rw [pay_at]
  simp only [x_at, g_at, w_at]
  rw [pos, ref_at]
  exact sum_eq _ _ _ _ _ (gain_at m c) fun k => weight_at m c k _

end Cert.Kernel6Ideal.MemKv

end
-- ==== Proof.MixNorm.lean ====
/- The first normalisation: the array the kernel leaves is the reference's. -/
module

public import proofs.«01_k».proof.Proof.CrossScalar
public import proofs.«01_k».proof.Proof.Gen.Kernel7Ideal.Frame
public import proofs.«01_k».proof.Proof.Gen.Reference7Ideal
public import Idealize.ShloMosaic.Lib.Pointwise
public import Idealize.ShloMosaic.Lib.KernelVsHost
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel7Ideal.MixNorm

open Cert.Kernel7Ideal Cert.Kernel7Ideal.Gen Cert.Cross
variable (m : (ℓ : Loc nD τ sig) → Buf (Elt Ideal) ℓ) (c : Dev nD)

section
open Cert.Reference7Ideal Cert.Reference7Ideal.Gen

/-- The reference's result over its two arguments. -/
def REF (X : FVec Ideal S16384x4096 .f32) (G : FVec Ideal S4096 .f32) : FVec Ideal S16384x4096 .bf16 :=
  truncf .bf16 (mulf (mulf X (broadcastInDim S16384x4096 ![0, 1] bcast_S16384x1_S16384x4096_0_1 (Host.rsqrt (addf (Host.divf (broadcastInDim S16384x1 ![0] bcast_S16384_S16384x1_0 (Host.reduceAdd (mulf X X) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 G))) Cert.Reference7Ideal.Gen.bitsLt_bf16_f32

theorem ref_at (X : FVec Ideal S16384x4096 .f32) (G : FVec Ideal S4096 .f32) (a : Fin 16384) (b : Fin 4096) :
    REF X G (ix2 a b) = rown (fun k => X (ix2 a k)) (fun k => G (ix1 k)) b := by
  unfold rown
  pointwise [REF]
end

/-- The kernel's payload at a point. -/
theorem pay_at (x : FVec Ideal S512x4096 .f32) (g : FVec Ideal S1x4096 .f32) (a : Fin 512) (b : Fin 4096) :
    k0_pay1 (F := Ideal) x g (ix2 a b) = rown (fun k => x (ix2 a k)) (fun k => g (ix2 0 k)) b := by
  unfold rown
  pointwise [k0_pay1]

/-- Every window's block index at every point. -/
theorem idx : ∀ t : Fin cfg0.N, win0_0.index t = ![t.val, 0] ∧ win0_1.index t = ![0, 0] ∧ win0_2.index t = ![t.val, 0] :=
  (by decide +kernel : ∀ t : Fin grid0.N, _)

theorem t_lt (t : Fin cfg0.N) : t.val < 32 := lt_of_lt_of_eq t.isLt N_0

theorem gain_at (k : Fin 4096) : (V m c main_v0 : FVec Ideal S1x4096 .f32) (ix2 0 k)
    = (m ((c : Thread nD τ).loc main_arg1) : FVec Ideal S4096 .f32) (ix1 k) := by
  entry_read
  pointwise

theorem x_at (t : Fin cfg0.N) (a : Fin 512) (k : Fin 4096) : (iblk m c 0 t : FVec Ideal S512x4096 .f32) (ix2 a k)
    = (m ((c : Thread nD τ).loc main_arg0) : FVec Ideal S16384x4096 .f32) (ix2 ⟨t.val * 512 + a, by have := t_lt t; omega⟩ k) := by
  blk_ext [iblk, V, idx t]
theorem g_at (t : Fin cfg0.N) (k : Fin 4096) : (iblk m c 1 t : FVec Ideal S1x4096 .f32) (ix2 0 k)
    = (V m c main_v0 : FVec Ideal S1x4096 .f32) (ix2 0 k) := by
  blk_ext [iblk, idx t]

theorem pos (t : Fin cfg0.N) (a : Fin 512) (b : Fin 4096) : ((View.whole main_v1).slice (win0_2.rect t)).emb (ix2 a b)
    = (ix2 ⟨t.val * 512 + a, by have := t_lt t; omega⟩ b : S16384x4096.Idx) := by
  blk_ext [idx t]

theorem row_eq (x g g' : Fin 4096 → EReal) (b : Fin 4096) (hg : ∀ k, g k = g' k) : rown x g b = rown x g' b := by
  rw [funext hg]

/-- THE ARRAY after the run. -/
theorem final : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  have ht := t_lt t
  unfold out0_2
  frame_out
  idx_vars y
  rw [pay_at]
  simp only [x_at, g_at]
  rw [pos, ref_at]
  exact row_eq _ _ _ _ (gain_at m c)

end Cert.Kernel7Ideal.MixNorm

end
-- ==== Proof.ConvMix.lean ====
/- The convolution mixer: the array the kernel leaves is the reference's. -/
module

public import proofs.«01_k».proof.Proof.Gen.Kernel8Ideal.Frame
public import proofs.«01_k».proof.Proof.Gen.Reference8Ideal
public import Idealize.ShloMosaic.Lib.Pointwise
public import Idealize.ShloMosaic.Lib.KernelVsHost
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel8Ideal.ConvMix

open Cert.Kernel8Ideal Cert.Kernel8Ideal.Gen
variable (m : (ℓ : Loc nD τ sig) → Buf (Elt Ideal) ℓ) (c : Dev nD)

/-- The gated number of a row and a column, the product of two entries of the projection. -/
def gated (X : FVec Ideal S16384x17408 .bf16) (r : ℕ) (k : Fin 2048) : EReal :=
  if h : r < 16384 then X (ix2 ⟨r, h⟩ ⟨2048 + k, by omega⟩) * X (ix2 ⟨r, h⟩ ⟨4096 + k, by omega⟩) else 0

/-- The gated number of the row before, zero at the first row of a sequence. -/
def before (X : FVec Ideal S16384x17408 .bf16) (r : ℕ) (k : Fin 2048) : EReal := if r % 8192 = 0 then 0 else gated X (r - 1) k

/-- The gated number of the row after, zero at the last row of a sequence. -/
def after (X : FVec Ideal S16384x17408 .bf16) (r : ℕ) (k : Fin 2048) : EReal := if r % 8192 = 8191 then 0 else gated X (r + 1) k

/-- One element of the mixer. -/
def mixed (X : FVec Ideal S16384x17408 .bf16) (W : FVec Ideal S3x2048 .f32) (r : Fin 16384) (k : Fin 2048) : EReal :=
  X (ix2 r ⟨k, by omega⟩) * (W (ix2 0 k) * before X r k + W (ix2 1 k) * gated X r k + W (ix2 2 k) * after X r k)

section
open Cert.Reference8Ideal Cert.Reference8Ideal.Gen

/-- The projection in the reference, per sequence. -/
def PS (X : FVec Ideal S16384x17408 .bf16) : FVec Ideal S2x8192x17408 .f32 :=
  extf .f32 (shapeCast _ X shapeCasts_S16384x17408_S2x8192x17408) Cert.Reference8Ideal.Gen.bitsLt_bf16_f32

/-- The gated numbers with a zero row at either end of a sequence. -/
def ZP (X : FVec Ideal S16384x17408 .bf16) : FVec Ideal S2x8194x2048 .f32 :=
  pad S2x8194x2048 ![0, 1, 0] ![0, 1, 0] ![0, 0, 0] (mulf (extractStridedSlice S2x8192x2048 ![0, 0, 2048] (PS X) slices_S2x8192x17408_S2x8192x2048_0_0_2048) (extractStridedSlice S2x8192x2048 ![0, 0, 4096] (PS X) slices_S2x8192x17408_S2x8192x2048_0_0_4096)) (sitofp .f32 (constantI S_ 32 0#32)) pads_S2x8192x2048_S2x8194x2048_000_110_000 h_S_

/-- A row of the weights over the whole array. -/
abbrev ROW0 (W : FVec Ideal S3x2048 .f32) : FVec Ideal S2x8192x2048 .f32 :=
  broadcastInDim S2x8192x2048 ![0, 1, 2] bcast_S1x1x2048_S2x8192x2048_0_1_2 (broadcastInDim S1x1x2048 ![2] bcast_S2048_S1x1x2048_2 (shapeCast _ (extractStridedSlice S1x2048 ![0, 0] W slices_S3x2048_S1x2048_0_0) shapeCasts_S1x2048_S2048))
abbrev ROW1 (W : FVec Ideal S3x2048 .f32) : FVec Ideal S2x8192x2048 .f32 :=
  broadcastInDim S2x8192x2048 ![0, 1, 2] bcast_S1x1x2048_S2x8192x2048_0_1_2 (broadcastInDim S1x1x2048 ![2] bcast_S2048_S1x1x2048_2 (shapeCast _ (extractStridedSlice S1x2048 ![1, 0] W slices_S3x2048_S1x2048_1_0) shapeCasts_S1x2048_S2048))
abbrev ROW2 (W : FVec Ideal S3x2048 .f32) : FVec Ideal S2x8192x2048 .f32 :=
  broadcastInDim S2x8192x2048 ![0, 1, 2] bcast_S1x1x2048_S2x8192x2048_0_1_2 (broadcastInDim S1x1x2048 ![2] bcast_S2048_S1x1x2048_2 (shapeCast _ (extractStridedSlice S1x2048 ![2, 0] W slices_S3x2048_S1x2048_2_0) shapeCasts_S1x2048_S2048))

/-- The reference's result over its two arguments. -/
def REF (X : FVec Ideal S16384x17408 .bf16) (W : FVec Ideal S3x2048 .f32) : FVec Ideal S16384x2048 .bf16 :=
  truncf .bf16 (shapeCast _ (mulf (extractStridedSlice S2x8192x2048 ![0, 0, 0] (PS X) slices_S2x8192x17408_S2x8192x2048_0_0_0)
    (addf (addf (mulf (ROW0 W) (extractStridedSlice S2x8192x2048 ![0, 0, 0] (ZP X) slices_S2x8194x2048_S2x8192x2048_0_0_0))
      (mulf (ROW1 W) (extractStridedSlice S2x8192x2048 ![0, 1, 0] (ZP X) slices_S2x8194x2048_S2x8192x2048_0_1_0)))
      (mulf (ROW2 W) (extractStridedSlice S2x8192x2048 ![0, 2, 0] (ZP X) slices_S2x8194x2048_S2x8192x2048_0_2_0))))
    shapeCasts_S2x8192x2048_S16384x2048) Cert.Reference8Ideal.Gen.bitsLt_bf16_f32

theorem zero : FloatOps.sitofp (F := Ideal) FTy.f32 0#32 = (0 : EReal) := by
  show (((0#32 : BitVec 32).toInt : ℝ) : EReal) = 0
  simp

theorem zp_at (X : FVec Ideal S16384x17408 .bf16) (b : Fin 2) (r : Fin 8194) (k : Fin 2048) :
    ZP X (ix3 b r k) = if 1 ≤ r.val ∧ r.val - 1 < 8192 then gated X (b * 8192 + (r - 1)) k else 0 := by
  pointwise [ZP, PS]
  by_cases h : 1 ≤ r.val ∧ r.val - 1 < 8192
  · rw [dif_pos h, if_pos h, gated, dif_pos (by omega)]
  · rw [dif_neg h, if_neg h, zero]

theorem ref_at (X : FVec Ideal S16384x17408 .bf16) (W : FVec Ideal S3x2048 .f32) (R : Fin 16384) (k : Fin 2048) :
    REF X W (ix2 R k) = mixed X W R k := by
  have e : REF X W (ix2 R k) = X (ix2 R ⟨k, by omega⟩) * (W (ix2 0 k) * ZP X (ix3 ⟨R / 8192, by omega⟩ ⟨R % 8192, by omega⟩ k)
      + W (ix2 1 k) * ZP X (ix3 ⟨R / 8192, by omega⟩ ⟨1 + R % 8192, by omega⟩ k)
      + W (ix2 2 k) * ZP X (ix3 ⟨R / 8192, by omega⟩ ⟨2 + R % 8192, by omega⟩ k)) := by
    pointwise [REF, PS]
  have h0 : ZP X (ix3 ⟨R / 8192, by omega⟩ ⟨R % 8192, by omega⟩ k) = before X R k := by
    rw [zp_at, before]
    by_cases h : R.val % 8192 = 0
    · rw [if_pos h, if_neg (by show ¬ (1 ≤ R.val % 8192 ∧ _); omega)]
    · rw [if_neg h, if_pos (by show 1 ≤ R.val % 8192 ∧ R.val % 8192 - 1 < 8192; omega)]
      exact congrArg (gated X · k) (by show R.val / 8192 * 8192 + (R.val % 8192 - 1) = R.val - 1; omega)
  have h1 : ZP X (ix3 ⟨R / 8192, by omega⟩ ⟨1 + R % 8192, by omega⟩ k) = gated X R k := by
    rw [zp_at, if_pos (by show 1 ≤ 1 + R.val % 8192 ∧ 1 + R.val % 8192 - 1 < 8192; omega)]
    exact congrArg (gated X · k) (by show R.val / 8192 * 8192 + (1 + R.val % 8192 - 1) = R.val; omega)
  have h2 : ZP X (ix3 ⟨R / 8192, by omega⟩ ⟨2 + R % 8192, by omega⟩ k) = after X R k := by
    rw [zp_at, after]
    by_cases h : R.val % 8192 = 8191
    · rw [if_pos h, if_neg (by show ¬ (1 ≤ 2 + R.val % 8192 ∧ 2 + R.val % 8192 - 1 < 8192); omega)]
    · rw [if_neg h, if_pos (by show 1 ≤ 2 + R.val % 8192 ∧ 2 + R.val % 8192 - 1 < 8192; omega)]
      exact congrArg (gated X · k) (by show R.val / 8192 * 8192 + (2 + R.val % 8192 - 1) = R.val + 1; omega)
  rw [e, h0, h1, h2, mixed]
end

theorem first : ∀ r : Fin 512, IntOp.cmpi .eq (BitVec.ofNat 32 (r : ℕ)) 0#32 = if r.val = 0 then 1#1 else 0#1 := by decide +kernel
theorem last : ∀ r : Fin 512, IntOp.cmpi .eq (BitVec.ofNat 32 (r : ℕ)) 511#32 = if r.val = 511 then 1#1 else 0#1 := by decide +kernel

theorem sel_if (p : Prop) [Decidable p] (a b : EReal) : Scalar.select (if p then 1#1 else 0#1) a b = if p then a else b := by
  split_ifs <;> rfl

/-- The kernel's payload at a point: the block's rows turned round by one, its first and last row from the neighbours. -/
theorem pay_at (z : FVec Ideal S512x1024 .f32) (u d : FVec Ideal S1x1024 .f32) (w : FVec Ideal S3x1024 .f32)
    (b : FVec Ideal S512x1024 .bf16) (r : Fin 512) (k : Fin 1024) :
    k0_pay1 (F := Ideal) z u d (iota .tc S512x1024 32 [0] iota_S512x1024_d0_w32) k0_pay5 1#32 w b (ix2 r k)
      = b (ix2 r k) * (w (ix2 0 k) * (if r.val = 0 then u (ix2 0 k) else z (ix2 ⟨(r + 512 - 1) % 512, by omega⟩ k))
        + w (ix2 1 k) * z (ix2 r k)
        + w (ix2 2 k) * (if r.val = 511 then d (ix2 0 k) else z (ix2 ⟨(r + 512 - 511) % 512, by omega⟩ k))) := by
  pointwise [k0_pay1, k0_pay5]
  rw [first, last, sel_if, sel_if]

theorem z_at (x y : FVec Ideal S512x1024 .bf16) (r : Fin 512) (k : Fin 1024) :
    k0_pay2 (F := Ideal) x y (ix2 r k) = x (ix2 r k) * y (ix2 r k) := by
  pointwise [k0_pay2]

theorem t_lt (t : Fin cfg0.N) : t.val < 64 := lt_of_lt_of_eq t.isLt N_0

/-- The point's row of blocks. -/
theorem coord : ∀ t : Fin cfg0.N, ((grid0.coords t) 0).val = t.val / 2 := (by decide +kernel : ∀ t : Fin grid0.N, _)

theorem up_at (t : Fin cfg0.N) (x y : FVec Ideal S1x1024 .bf16) (k : Fin 1024) :
    k0_pay3 (F := Ideal) (grid0.coords t) x y (ix2 0 k) = if t.val / 2 % 16 = 0 then 0 else x (ix2 0 k) * y (ix2 0 k) := by
  have ht := t_lt t
  pointwise [k0_pay3]
  rw [coord, ← sel_if]
  generalize hn : t.val / 2 = n
  have hl : n < 32 := by omega
  congr 1
  interval_cases n <;> rfl

theorem dn_at (t : Fin cfg0.N) (x y : FVec Ideal S1x1024 .bf16) (k : Fin 1024) :
    k0_pay4 (F := Ideal) (grid0.coords t) x y (ix2 0 k) = if t.val / 2 % 16 = 15 then 0 else x (ix2 0 k) * y (ix2 0 k) := by
  have ht := t_lt t
  pointwise [k0_pay4]
  rw [coord, ← sel_if]
  generalize hn : t.val / 2 = n
  have hl : n < 32 := by omega
  congr 1
  interval_cases n <;> rfl

/-- Every window's block index at every point. -/
theorem idx : ∀ t : Fin cfg0.N, win0_0.index t = ![t.val / 2, t.val % 2] ∧ win0_1.index t = ![t.val / 2, 2 + t.val % 2]
    ∧ win0_2.index t = ![t.val / 2, 4 + t.val % 2]
    ∧ win0_3.index t = ![t.val / 2 * 32 - 1, 2 + t.val % 2] ∧ win0_4.index t = ![t.val / 2 * 32 - 1, 4 + t.val % 2]
    ∧ win0_5.index t = ![min ((t.val / 2 + 1) * 32) 1023, 2 + t.val % 2]
    ∧ win0_6.index t = ![min ((t.val / 2 + 1) * 32) 1023, 4 + t.val % 2]
    ∧ win0_7.index t = ![0, t.val % 2] ∧ win0_8.index t = ![t.val / 2, t.val % 2] :=
  (by decide +kernel : ∀ t : Fin grid0.N, _)

/-- The projection and the weights as the launch finds them. -/
abbrev X : FVec Ideal S16384x17408 .bf16 := m ((c : Thread nD τ).loc main_arg0)
abbrev W : FVec Ideal S3x2048 .f32 := m ((c : Thread nD τ).loc main_arg1)

section
variable (t : Fin cfg0.N) (k : Fin 1024)

theorem b_at (r : Fin 512) : (iblk m c 0 t : FVec Ideal S512x1024 .bf16) (ix2 r k)
    = X m c (ix2 ⟨t.val / 2 * 512 + r, by have := t_lt t; omega⟩ ⟨t.val % 2 * 1024 + k, by omega⟩) := by
  blk_ext [iblk, V, idx t]
theorem c_at (r : Fin 512) : (iblk m c 1 t : FVec Ideal S512x1024 .bf16) (ix2 r k)
    = X m c (ix2 ⟨t.val / 2 * 512 + r, by have := t_lt t; omega⟩ ⟨2048 + (t.val % 2 * 1024 + k), by omega⟩) := by
  blk_ext [iblk, V, idx t]
theorem u_at (r : Fin 512) : (iblk m c 2 t : FVec Ideal S512x1024 .bf16) (ix2 r k)
    = X m c (ix2 ⟨t.val / 2 * 512 + r, by have := t_lt t; omega⟩ ⟨4096 + (t.val % 2 * 1024 + k), by omega⟩) := by
  blk_ext [iblk, V, idx t]
theorem cp_at (r : Fin 16) : (iblk m c 3 t : FVec Ideal S16x1024 .bf16) (ix2 r k)
    = X m c (ix2 ⟨(t.val / 2 * 32 - 1) * 16 + r, by have := t_lt t; omega⟩ ⟨2048 + (t.val % 2 * 1024 + k), by omega⟩) := by
  blk_ext [iblk, V, idx t]
theorem up'_at (r : Fin 16) : (iblk m c 4 t : FVec Ideal S16x1024 .bf16) (ix2 r k)
    = X m c (ix2 ⟨(t.val / 2 * 32 - 1) * 16 + r, by have := t_lt t; omega⟩ ⟨4096 + (t.val % 2 * 1024 + k), by omega⟩) := by
  blk_ext [iblk, V, idx t]
theorem cn_at (r : Fin 16) : (iblk m c 5 t : FVec Ideal S16x1024 .bf16) (ix2 r k)
    = X m c (ix2 ⟨min ((t.val / 2 + 1) * 32) 1023 * 16 + r, by have := t_lt t; omega⟩ ⟨2048 + (t.val % 2 * 1024 + k), by omega⟩) := by
  blk_ext [iblk, V, idx t]
theorem un_at (r : Fin 16) : (iblk m c 6 t : FVec Ideal S16x1024 .bf16) (ix2 r k)
    = X m c (ix2 ⟨min ((t.val / 2 + 1) * 32) 1023 * 16 + r, by have := t_lt t; omega⟩ ⟨4096 + (t.val % 2 * 1024 + k), by omega⟩) := by
  blk_ext [iblk, V, idx t]
theorem w_at (r : Fin 3) : (iblk m c 7 t : FVec Ideal S3x1024 .f32) (ix2 r k)
    = W m c (ix2 r ⟨t.val % 2 * 1024 + k, by omega⟩) := by
  blk_ext [iblk, V, idx t]
theorem pos (r : Fin 512) : ((View.whole main_v0).slice (win0_8.rect t)).emb (ix2 r k)
    = (ix2 ⟨t.val / 2 * 512 + r, by have := t_lt t; omega⟩ ⟨t.val % 2 * 1024 + k, by omega⟩ : S16384x2048.Idx) := by
  blk_ext [idx t]
end

theorem prev_row (x : Vec Ideal S16x1024 .bf16) (k : Fin 1024) : View.ld x r0_1 (ix2 0 k) = x (ix2 15 k) := by
  pointwise
  blk_ext []
theorem next_row (x : Vec Ideal S16x1024 .bf16) (k : Fin 1024) : View.ld x r0_2 (ix2 0 k) = x (ix2 0 k) := by
  pointwise
  blk_ext []

theorem gated_eq (X : FVec Ideal S16384x17408 .bf16) (r : ℕ) (h : r < 16384) (k : Fin 2048) :
    gated X r k = X (ix2 ⟨r, h⟩ ⟨2048 + k, by omega⟩) * X (ix2 ⟨r, h⟩ ⟨4096 + k, by omega⟩) := by rw [gated, dif_pos h]

/-- The row before a block's row: in the block, or the last of the sixteen rows before it, or zero. -/
theorem edge_before (t : Fin cfg0.N) (r : Fin 512) (k : Fin 2048) : before (X m c) (t.val / 2 * 512 + r) k
    = if r.val = 0 then (if t.val / 2 % 16 = 0 then 0 else
        X m c (ix2 ⟨(t.val / 2 * 32 - 1) * 16 + (15 : Fin 16), by have := t_lt t; omega⟩ ⟨2048 + k, by omega⟩)
          * X m c (ix2 ⟨(t.val / 2 * 32 - 1) * 16 + (15 : Fin 16), by have := t_lt t; omega⟩ ⟨4096 + k, by omega⟩))
      else X m c (ix2 ⟨t.val / 2 * 512 + (r + 512 - 1) % 512, by have := t_lt t; omega⟩ ⟨2048 + k, by omega⟩)
        * X m c (ix2 ⟨t.val / 2 * 512 + (r + 512 - 1) % 512, by have := t_lt t; omega⟩ ⟨4096 + k, by omega⟩) := by
  have ht := t_lt t
  have h15 : ((15 : Fin 16) : ℕ) = 15 := rfl
  unfold before
  by_cases h : r.val = 0
  · by_cases h' : t.val / 2 % 16 = 0
    · rw [if_pos h, if_pos h', if_pos (by omega)]
    · rw [if_pos h, if_neg h', if_neg (by omega), ← gated_eq (X m c)]
      exact congrArg (gated (X m c) · k) (by omega)
  · rw [if_neg h, if_neg (by omega), ← gated_eq (X m c)]
    exact congrArg (gated (X m c) · k) (by omega)

/-- The row after a block's row: in the block, or the first of the sixteen rows after it, or zero. -/
theorem edge_after (t : Fin cfg0.N) (r : Fin 512) (k : Fin 2048) : after (X m c) (t.val / 2 * 512 + r) k
    = if r.val = 511 then (if t.val / 2 % 16 = 15 then 0 else
        X m c (ix2 ⟨min ((t.val / 2 + 1) * 32) 1023 * 16 + (0 : Fin 16), by have := t_lt t; omega⟩ ⟨2048 + k, by omega⟩)
          * X m c (ix2 ⟨min ((t.val / 2 + 1) * 32) 1023 * 16 + (0 : Fin 16), by have := t_lt t; omega⟩ ⟨4096 + k, by omega⟩))
      else X m c (ix2 ⟨t.val / 2 * 512 + (r + 512 - 511) % 512, by have := t_lt t; omega⟩ ⟨2048 + k, by omega⟩)
        * X m c (ix2 ⟨t.val / 2 * 512 + (r + 512 - 511) % 512, by have := t_lt t; omega⟩ ⟨4096 + k, by omega⟩) := by
  have ht := t_lt t
  have h0 : ((0 : Fin 16) : ℕ) = 0 := rfl
  unfold after
  by_cases h : r.val = 511
  · by_cases h' : t.val / 2 % 16 = 15
    · rw [if_pos h, if_pos h', if_pos (by omega)]
    · rw [if_pos h, if_neg h', if_neg (by omega), ← gated_eq (X m c)]
      exact congrArg (gated (X m c) · k) (by omega)
  · rw [if_neg h, if_neg (by omega), ← gated_eq (X m c)]
    exact congrArg (gated (X m c) · k) (by omega)

/-- THE ARRAY after the run. -/
theorem final : (dats m 0 c).arrAt 8 (cfgs 0).N = REF (X m c) (W m c) := by
  refine (dats m 0 c).arrAt_eq_of_covers 8 _ (by decide +kernel) fun t _ y => ?_
  blk_simp
  rw [after0_8]
  have ht := t_lt t
  unfold out0_8
  frame_out
  idx_vars y
  rw [pay_at]
  rw [pos, ref_at, up_at, dn_at, prev_row, prev_row, next_row, next_row, mixed]
  simp only [z_at, b_at, c_at, u_at, cp_at, up'_at, cn_at, un_at, w_at]
  have e0 : before (X m c) (t.val / 2 * 512 + y0) ⟨t.val % 2 * 1024 + y1, by omega⟩ = _ := edge_before m c t y0 _
  have e2 : after (X m c) (t.val / 2 * 512 + y0) ⟨t.val % 2 * 1024 + y1, by omega⟩ = _ := edge_after m c t y0 _
  have e1 := gated_eq (X m c) (t.val / 2 * 512 + y0) (by omega) ⟨t.val % 2 * 1024 + y1, by omega⟩
  simp only [e0, e1, e2]

end Cert.Kernel8Ideal.ConvMix

end
-- ==== Proof.RouteFrame.lean ====
/- The router's kernel: its body run once, and its frame. Of the four results the affinities' block is named at every
   point; the other three, and the scratch, are held at some contents. -/
module

public import proofs.«01_k».proof.Proof.Gen.Kernel9Ideal.Frame
public import proofs.«01_k».proof.Proof.Gen.Kernel9Ideal.Skeleton
public import Idealize.ShloMosaic.Lib.Pipeline.Frame
public import Idealize.ShloMosaic.Lib.Tactic
public import Idealize.ShloMosaic.Lib.VecWindow

@[expose] public section

set_option maxRecDepth 16384

noncomputable section

namespace Cert.Kernel9Ideal.Route

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- A buffer at some contents. -/
abbrev some' (c : Dev nD) {sp : Space} {S : Shape} {e : EltTy} (M : Memref sig .tc sp S e) : sProp 𝕄 :=
  iprop(∃ f : Buf (Elt F) (M.view.loc (c : Thread nD τ)), M.view.loc (c : Thread nD τ) ↦{fullShare} f)

section Loop

variable (c : Dev nD) (i : grid0.Coords) (arg1 : Memref sig .tc .vmem S1x8192x16 .f32) (harg1 : arg1.IsWhole)
  (arg2 : Memref sig .tc .vmem S1x8192x16 .i32) (harg2 : arg2.IsWhole) (arg3 : Memref sig .tc .vmem S1x8192x16 .f32) (harg3 : arg3.IsWhole)
  (arg4 : Memref sig .tc .vmem S1x8192x16 .i32) (harg4 : arg4.IsWhole) (arg5 : Memref sig .tc .vmem S1x64x16 .i32) (harg5 : arg5.IsWhole)
  (arg6 : Memref sig .tc .vmem S8192x16 .bf16) (harg6 : arg6.IsWhole) (arg7 : Memref sig .tc .vmem S8192x16 .bf16) (harg7 : arg7.IsWhole)
  (arg8 : Memref sig .tc .vmem S8192x16 .f32) (harg8 : arg8.IsWhole) (arg9 : Memref sig .tc .vmem S8192x16 .f32) (harg9 : arg9.IsWhole)
  (v19 : IVec S8192x16 1) (v21 : IVec S8192x16 1) (v27 : FVec F S1x16 .f32) (cst_14 : F .f32) (v35 : FVec F S8192x16 .f32)

/-- Before any trip of the counting loop the four scratch buffers hold something. -/
def inv (k : Nat) (_ : FVec F S1x16 .f32 × FVec F S1x16 .f32) : sProp 𝕄 :=
  iprop(some' c arg6 ∗ some' c arg7 ∗ some' c arg8 ∗ some' c arg9)

theorem step (k : Fin k0_t2_loop.trips) (acc : FVec F S1x16 .f32 × FVec F S1x16 .f32) :
    inv (F := F) c arg6 arg7 arg8 arg9 k acc ⊢ wp frame (wpE (defs₀ (F := F)) Variants.none (c : Thread nD τ) none) Set.univ
      (k0_t2_body (F := F) i arg1 harg1 arg2 harg2 arg3 harg3 arg4 harg4 arg5 harg5 arg6 harg6 arg7 harg7 arg8 harg8 arg9 harg9 v19 v21 v27 cst_14 v35 k acc)
      (inv (F := F) c arg6 arg7 arg8 arg9 (k.val + 1)) := by
  obtain ⟨a, b⟩ := acc
  unfold inv k0_t2_body
  iintro ⟨⟨%f6, H6⟩, ⟨%f7, H7⟩, ⟨%f8, H8⟩, ⟨%f9, H9⟩⟩
  sl_exec
  sl_step
  isplitl [H6]; · iexists _; iexact H6
  isplitl [H7]; · iexists _; iexact H7
  isplitl [H8]; · iexists _; iexact H8
  iexists _; iexact H9

@[sl_loop, instance_reducible] def loopInv :
    LoopInv (M := 𝕄) frame (wpE (defs₀ (F := F)) Variants.none (c : Thread nD τ) none) Set.univ k0_t2_loop.lb k0_t2_loop.ub k0_t2_loop.st k0_t2_ok
      (k0_pay14 (F := F), k0_pay14 (F := F))
      (k0_t2_body (F := F) i arg1 harg1 arg2 harg2 arg3 harg3 arg4 harg4 arg5 harg5 arg6 harg6 arg7 harg7 arg8 harg8 arg9 harg9 v19 v21 v27 cst_14 v35) where
  inv := inv (F := F) c arg6 arg7 arg8 arg9
  step := step (F := F) c i arg1 harg1 arg2 harg2 arg3 harg3 arg4 harg4 arg5 harg5 arg6 harg6 arg7 harg7 arg8 harg8 arg9 harg9 v19 v21 v27 cst_14 v35

set_option maxHeartbeats 1600000 in
/-- The body run once: the affinities' buffer is left at the payload of the logits, the other results' buffers and the
    scratch at something. -/
theorem run (x : Vec F S1x8192x16 .f32) (K : PUnit → sProp 𝕄) :
    iprop(owns (c : Thread nD τ) arg1 fullShare x ∗ (∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d)
        ∗ some' c arg6 ∗ some' c arg7 ∗ some' c arg8 ∗ some' c arg9
        ∗ (iprop(owns (c : Thread nD τ) arg1 fullShare x ∗ (∃ d, owns (c : Thread nD τ) arg2 fullShare d) ∗ owns (c : Thread nD τ) arg3 fullShare (k0_pay3 x)
            ∗ (∃ d, owns (c : Thread nD τ) arg4 fullShare d) ∗ (∃ d, owns (c : Thread nD τ) arg5 fullShare d)
            ∗ some' c arg6 ∗ some' c arg7 ∗ some' c arg8 ∗ some' c arg9) -∗ K ⟨⟩))
      ⊢ wp frame (wpE (defs₀ (F := F)) Variants.none c none) Set.univ
          (cc0_expert_choice_route (F := F) i arg1 harg1 arg2 harg2 arg3 harg3 arg4 harg4 arg5 harg5 arg6 harg6 arg7 harg7 arg8 harg8 arg9 harg9) K := by
  simp only [cc0_expert_choice_route_eq_skeleton]; unfold cc0_expert_choice_route_skel
  unfold owns
  iintro ⟨⟨%f1, %hf1, H1⟩, ⟨%d2, %f2, -, H2⟩, ⟨%d3, %f3, -, H3⟩, ⟨%d4, %f4, -, H4⟩, ⟨%d5, %f5, -, H5⟩, ⟨%f6, H6⟩, ⟨%f7, H7⟩, ⟨%f8, H8⟩, ⟨%f9, H9⟩, Hk⟩
  subst hf1
  sl_exec
  sl_step
  iapply Hk
  isplitl [H1]
  · iexists f1; isplitr; · ipureintro; rfl
    iexact H1
  isplitl [H2]
  · iexists _; iexists _; isplitr
    swap; · iexact H2
    ipureintro; rfl
  isplitl [H3]
  · iexists _; isplitr
    swap; · iexact H3
    ipureintro
    exact (View.read_writes_full (arg3.view) _ _ _ _).trans (congrArg k0_pay3 (View.readAt_full (arg1.view) f1 _))
  isplitl [H4]
  · iexists _; iexists _; isplitr
    swap; · iexact H4
    ipureintro; rfl
  isplitl [H5]
  · iexists _; iexists _; isplitr
    swap; · iexact H5
    ipureintro; rfl
  sl_close

end Loop

variable (m : (ℓ : Loc nD τ sig) → Buf (Elt F) ℓ) (ρ : Dev nD → PrngReg)

/-! ## The proof data and the body at a point -/

/-- The windows whose contents are not named: the positions, the running counts, the block ends. -/
def fgt : Fin cfg0.W → Bool := fun | ⟨0, _⟩ => false | ⟨1, _⟩ => true | ⟨2, _⟩ => false | ⟨3, _⟩ => true | ⟨4, _⟩ => true

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => Dat.unnamed (cfg := cfg0) 1 t
    | ⟨2, _⟩ => k0_pay3 (iblk m c 0 t)
    | ⟨3, _⟩ => Dat.unnamed (cfg := cfg0) 3 t
    | ⟨4, _⟩ => Dat.unnamed (cfg := cfg0) 4 t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_2 (c : Dev nD) (t : Fin cfg0.N) : (dats m 0 c).after 2 t = k0_pay3 (iblk m c 0 t) := by dsimp only [dats]
theorem before0_0 (c : Dev nD) (t : Fin cfg0.N) (d) : (dats m 0 c).before 0 t d = iblk m c 0 t :=
  before0_0_of m (dats m 0 c) (A_eq m c 0) (after0_0 m c) t d

theorem PhiA0_eq (c : Dev nD) :
    (Pipeline.ΦA spec0 c : sProp 𝕄)
      = iprop(iprop(some' c (Memref.whole cc0_scratch0) ∗ some' c (Memref.whole cc0_scratch1) ∗ some' c (Memref.whole cc0_scratch2)
          ∗ some' c (Memref.whole cc0_scratch3)) ∗ (∃ r, prngReg c r)) := by
  unfold Pipeline.ΦA; rw [scopedRest0_eq]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare d)
    ∗ (∃ d, owns (c : Thread nD τ) (st0_2 t) fullShare ((dats m 0 c).before 2 t d))
    ∗ (∃ d, owns (c : Thread nD τ) (st0_3 t) fullShare d)
    ∗ (∃ d, owns (c : Thread nD τ) (st0_4 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare d)
    ∗ owns (c : Thread nD τ) (st0_2 t) fullShare ((dats m 0 c).after 2 t)
    ∗ (∃ d, owns (c : Thread nD τ) (st0_3 t) fullShare d)
    ∗ (∃ d, owns (c : Thread nD τ) (st0_4 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl, after0_0, after0_2,
    show (dats m 0 c).Φ t.succ = Pipeline.ΦA spec0 c from rfl, show (dats m 0 c).Φ t.castSucc = Pipeline.ΦA spec0 c from rfl, PhiA0_eq]
  iintro ⟨⟨⟨H6, H7, H8, H9⟩, Hg⟩, HO, ⟨%d0, H1⟩, H2, ⟨%d2, H3⟩, H4, H5⟩
  iapply (run c (grid0.coords t) _ _ _ _ _ _ _ _ _ _ _ _ _ _ _ _ _ _ (iblk m c 0 t) _)
  isplitl [H1]; · iexact H1
  isplitl [H2]; · iexact H2
  isplitl [H3]; · iexists _; iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, H4, H5, H6, H7, H8, H9⟩
  isplitl [H6 H7 H8 H9 Hg]
  · isplitl [H6 H7 H8 H9]
    · isplitl [H6]; · iexact H6
      isplitl [H7]; · iexact H7
      isplitl [H8]; · iexact H8
      iexact H9
    iexact Hg
  isplitl [HO]; · iexact HO
  isplitl [H1]; · iexact H1
  isplitl [H2]; · iexact H2
  isplitl [H3]; · iexact H3
  isplitl [H4]; · iexact H4
  iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-! ## The run -/

/-- What is known after the run: the logits as launched, the affinities the blocks the body left. -/
def Post (r : PUnit × MemSt nD τ sig (Elt F)) : Prop :=
  Pipeline.RDat.FramePost cfg0 (fun c => (dats m 0 c).toRForget fgt) (V m) r

set_option backward.isDefEq.respectTransparency.types false in
theorem run_main_quiescent : θ_run defs (onTc (τ := τ) (main (F := F))) (s₀ m ρ) (fun r => Post m r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Post m) :=
  (θ_run defs _ _).mono (fun _ h => h.1) (run_main_quiescent m ρ)

variable {m} in
theorem kept {r : PUnit × MemSt nD τ sig (Elt F)} (h : Post m r) (c : Dev nD) :
    r.2.mem ((c.tc : Thread nD τ).loc main_arg0) = m ((c.tc : Thread nD τ).loc main_arg0) :=
  (((dats m 0 c).toRForget_arrAt_iff (fgt := fgt) (w := 0) rfl _ _).mp ((h c).1 0)).trans (((dats m 0 c).arrAt_in 0 rfl _).trans (A_eq m c 0))

variable {m} in
/-- The affinities' array after the run. -/
theorem left {r : PUnit × MemSt nD τ sig (Elt F)} (h : Post m r) (c : Dev nD) :
    r.2.mem (((cfgs 0).spec 2).arr.view.loc (c.tc : Thread nD τ)) = (dats m 0 c).arrAt 2 (cfgs 0).N :=
  ((dats m 0 c).toRForget_arrAt_iff (fgt := fgt) (w := 2) rfl _ _).mp ((h c).1 2)

/-- Every execution ends, the argument unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => kept h.1 c, h.2⟩) (run_main_quiescent m ρ)

end Cert.Kernel9Ideal.Route

end
-- ==== Proof.Route.lean ====
/- The router's affinities: the array the kernel leaves is the softmax of the logits. -/
module

public import proofs.«01_k».proof.Proof.Scalar
public import proofs.«01_k».proof.Proof.Ref
public import proofs.«01_k».proof.Proof.RouteFrame
public import proofs.«01_k».proof.Proof.Gen.Reference9Ideal
public import Idealize.ShloMosaic.Lib.Pointwise
public import Idealize.ShloMosaic.Lib.KernelVsHost
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel9Ideal.Route

open Cert.Kernel9Ideal Cert.Kernel9Ideal.Gen

/-- The largest of 16 logits. -/
def top (s : Fin 16 → EReal) : EReal := Finset.univ.fold max (Ideal.ofBits FTy.f32 4286578688#32) s

/-- One affinity of a position: the exponential of its logit over the sum of them, the largest logit taken off first. -/
def soft (s : Fin 16 → EReal) (e : Fin 16) : EReal := Ideal.div (Ideal.exp (s e - top s)) (∑ k, Ideal.exp (s k - top s))

section
open Cert.Reference9Ideal Cert.Reference9Ideal.Gen

/-- The reference's largest logits, its exponentials, its result. -/
def TOP (X : FVec Ideal S2x8192x16 .f32) : FVec Ideal S2x8192 .f32 :=
  maximumf (broadcastInDim S2x8192 ![] bcast_S_S2x8192 (constant S_ .f32 0xFF800000#32)) (Host.reduce FloatOps.maximumf X (constant S_ .f32 0xFF800000#32) reducesTo_S2x8192x16_S2x8192_d2 h_S_)
def PE (X : FVec Ideal S2x8192x16 .f32) : FVec Ideal S2x8192x16 .f32 :=
  Host.exp (subf X (broadcastInDim S2x8192x16 ![0, 1, 2] bcast_S2x8192x1_S2x8192x16_0_1_2 (broadcastInDim S2x8192x1 ![0, 1] bcast_S2x8192_S2x8192x1_0_1 (TOP X))))
def REF (X : FVec Ideal S2x8192x16 .f32) : FVec Ideal S2x8192x16 .f32 :=
  Host.divf (PE X) (broadcastInDim S2x8192x16 ![0, 1, 2] bcast_S2x8192x1_S2x8192x16_0_1_2 (broadcastInDim S2x8192x1 ![0, 1] bcast_S2x8192_S2x8192x1_0_1 (Host.reduceAdd (PE X) (constant S_ .f32 0x00000000#32) reducesTo_S2x8192x16_S2x8192_d2 h_S_)))

variable (X : FVec Ideal S2x8192x16 .f32) (b : Fin 2) (r : Fin 8192) (e : Fin 16)

theorem reduces : Shape.Reduces S2x8192x16 [2] S2x8192 := by decide

theorem lift_at (k : Fin 16) : reduces.lift (ix2 b r) k = ix3 b r k := by
  funext i
  apply Fin.ext
  match i with
  | ⟨0, _⟩ => rfl
  | ⟨1, _⟩ => rfl
  | ⟨2, _⟩ => rfl

theorem hostmax_at :
    Host.reduce FloatOps.maximumf X (constant (F := Ideal) S_ .f32 0xFF800000#32) reducesTo_S2x8192x16_S2x8192_d2 h_S_ (ix2 b r)
      = top fun k : Fin 16 => X (ix3 b r k) := by
  exact (Cert.ReferenceIdeal.Attn.hostmax_single X _ h_S_ reduces _).trans
    (congrArg (Finset.fold max _ · _) (funext fun k => congrArg X (lift_at b r k)))

theorem top_at : TOP X (ix2 b r) = top fun k : Fin 16 => X (ix3 b r k) := by
  rw [TOP, Cert.ReferenceIdeal.Attn.max_at, hostmax_at]
  refine (congrArg (max · _) (show _ = Ideal.ofBits FTy.f32 4286578688#32 from rfl)).trans ?_
  rw [Cert.Attn.negInf, max_eq_right bot_le]

theorem pe_at : PE X (ix3 b r e) = Ideal.exp (X (ix3 b r e) - top fun k : Fin 16 => X (ix3 b r k)) := by
  rw [← top_at]
  pointwise [PE]

theorem ref_at : REF X (ix3 b r e) = soft (fun k => X (ix3 b r k)) e := by
  unfold soft
  simp only [← pe_at]
  pointwise [REF]
end

/-- The kernel's payload at a point. -/
theorem pay_at (x : FVec Ideal S1x8192x16 .f32) (r : Fin 8192) (e : Fin 16) :
    k0_pay3 (F := Ideal) x (ix3 0 r e) = soft (fun k => x (ix3 0 r k)) e := by
  unfold soft top
  pointwise [k0_pay3, k0_pay2]

variable (m : (ℓ : Loc nD τ sig) → Buf (Elt Ideal) ℓ) (c : Dev nD)

/-- Every window's block index at every point. -/
theorem idx : ∀ t : Fin cfg0.N, win0_0.index t = ![t.val, 0, 0] ∧ win0_2.index t = ![t.val, 0, 0] :=
  (by decide +kernel : ∀ t : Fin grid0.N, _)

theorem t_lt (t : Fin cfg0.N) : t.val < 2 := lt_of_lt_of_eq t.isLt N_0

theorem x_at (t : Fin cfg0.N) (r : Fin 8192) (k : Fin 16) : (iblk m c 0 t : FVec Ideal S1x8192x16 .f32) (ix3 0 r k)
    = (m ((c : Thread nD τ).loc main_arg0) : FVec Ideal S2x8192x16 .f32) (ix3 ⟨t.val, t_lt t⟩ r k) := by
  blk_ext [iblk, V, idx t]

theorem pos (t : Fin cfg0.N) (z : Fin 1) (r : Fin 8192) (e : Fin 16) : ((View.whole main_v0_1).slice (win0_2.rect t)).emb (ix3 z r e)
    = (ix3 ⟨t.val, t_lt t⟩ r e : S2x8192x16.Idx) := by
  blk_ext [idx t]

/-- THE ARRAY after the run. -/
theorem final : (dats m 0 c).arrAt 2 (cfgs 0).N = REF (m ((c : Thread nD τ).loc main_arg0)) := by
  refine (dats m 0 c).arrAt_eq_of_covers 2 _ (by decide +kernel) fun t _ y => ?_
  blk_simp
  rw [after0_2]
  have ht := t_lt t
  idx_vars y
  rw [show y0 = 0 from Subsingleton.elim _ _, pay_at]
  simp only [x_at]
  rw [pos, ref_at]

/-- Every execution ends with the softmax of the logits in place and the logits unchanged. -/
theorem leaves (ρ : Dev nD → PrngReg) : θ_run defs (onTc (τ := τ) (main (F := Ideal))) ⟨m, fun _ => 0, ρ⟩ (fun r => ∀ c : Dev nD,
      r.2.mem ((c.tc : Thread nD τ).loc main_v0_1) = REF (m ((c : Thread nD τ).loc main_arg0))
      ∧ r.2.mem ((c.tc : Thread nD τ).loc main_arg0) = m ((c.tc : Thread nD τ).loc main_arg0)) :=
  (θ_run defs _ _).mono (fun r h c => ⟨(left h c).trans (final m c), kept h c⟩) (run_main m ρ)

end Cert.Kernel9Ideal.Route

end
-- ==== Proof.RouteBits.lean ====
/- The router's frame at the machine's floats: the two programs are one text, so the run is the one of
   `RouteFrame.lean`. -/
module

public import proofs.«01_k».proof.Proof.RouteFrame
public import proofs.«01_k».proof.Proof.Gen.Kernel9.Launch

@[expose] public section

set_option maxRecDepth 16384

noncomputable section

namespace Cert.Kernel9.Route

open Cert.Kernel9 Cert.Kernel9.Gen
open Idealize.ShloMosaic Idealize.ShloMosaic.TcCoe
open Idealize.SL.Sem

variable {F : FTy → Type} [FloatOps F]

/-- The two body tables hold the same body. -/
theorem defs₀_eq : (Cert.Kernel9.defs₀ (F := F) : Defs nD τ sig (Elt F) Λ₀) = Cert.Kernel9Ideal.defs₀ (F := F) := by
  unfold Cert.Kernel9.defs₀ Cert.Kernel9Ideal.defs₀
  refine congrArg (Defs.onTc (nD := nD) (τ := τ) (sig := sig) (Val := Elt F) (Λ := Λ₀)) ?_
  funext ℓ a
  match ℓ, a with
  | 0, (i, s) => rfl

theorem defs_eq : (Cert.Kernel9.defs (F := F) : Defs nD τ sig (Elt F) (Pipeline.Sig Λ₀ (Fin 1) fun p => (pcfgs (F := F) p).Adm))
    = Cert.Kernel9Ideal.defs (F := F) :=
  congrArg (Pipeline.defs (pcfgs (F := F))) defs₀_eq

/-- Every execution ends, the argument unchanged and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  by rw [defs_eq]; exact Cert.Kernel9Ideal.Route.frame m ρ

end Cert.Kernel9.Route

end
-- ==== Proof.lean ====
/- The certificate of the nine calls, the windowed attention first: `Cert.Proof.claim : Cert.Claim`. The kernel's runs come from the
   generated frames; the value of the result array from `Proof/Point.lean` (the blocks), `Proof/Ref.lean` (the
   reference) and `Proof/Final.lean` (their equality).
   The input projection is in `Proof/Inproj.lean`, the merge in `Proof/Merge.lean`, the output projection in
   `Proof/Resid.lean`, the memory attention in `Proof/CrossFinal.lean`, its keys and values in `Proof/MemKv.lean`,
   the first normalisation in `Proof/MixNorm.lean`, the convolution mixer in `Proof/ConvMix.lean`,
   the router's affinities in `Proof/Route.lean`. -/
module

public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Reference2Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_inputs
public import proofs.«01_k».proof.Proof.Gen.KernelIdeal.Value
public import proofs.«01_k».proof.Proof.Gen.ReferenceIdeal.Run
public import proofs.«01_k».proof.Proof.Final
public import proofs.«01_k».proof.Proof.Inproj
public import proofs.«01_k».proof.Proof.InprojBits
public import proofs.«01_k».proof.Proof.Merge
public import proofs.«01_k».proof.Proof.Resid
public import proofs.«01_k».proof.Proof.CrossFinal
public import proofs.«01_k».proof.Proof.MemKv
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.MixNorm
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.ConvMix
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Pre_finite_inputs5
public import proofs.«01_k».proof.Proof.Route
public import proofs.«01_k».proof.Proof.RouteBits
public import Idealize.ShloMosaic.Adequacy
public import Idealize.ShloMosaic.Init

@[expose] public section

noncomputable section

namespace Cert.Proof

open Idealize.ShloMosaic Idealize.SL.Sem

/-- Every execution of the reference ends with its arguments unchanged and every counter at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => (h c).2, sem_eq_zero_of_no_sems (by rfl) r.2⟩) (Cert.ReferenceIdeal.Value.run m g)

/-- With finite arguments the attention of the kernel and the attention of the reference are the same array. -/
theorem algebraic [Cert.Pre_finite_inputs.Facts] : Cert.algebraic_KernelIdeal_ReferenceIdeal_pre_finite_inputs
    (hKernelIdeal := Cert.KernelIdeal.Gen.facts) (hReferenceIdeal := Cert.ReferenceIdeal.Gen.facts) := by
  pair_intro
  · run_from Cert.KernelIdeal.Gen.run_main m g
  · refine (θ_run Cert.ReferenceIdeal.defs _ _).mono (fun r h c => ⟨(h c).1.trans ?_, (h c).2⟩)
      (Cert.ReferenceIdeal.Value.run m' g')
    rw [Cert.ReferenceIdeal.Attn.res_eq, (hagree c).1, (hagree c).2]
    exact (Cert.Attn.value m c (hpre c)).symm.trans (Cert.KernelIdeal.Attn.final m c).symm

/-- Every execution of the input projection's reference ends with its arguments unchanged and every counter at zero. -/
theorem frame_reference2 : Cert.quiescent_Reference2Ideal (hReference2Ideal := Cert.Reference2Ideal.Gen.facts) := fun m g _ =>
  (θ_run Cert.Reference2Ideal.defs _ _).mono (fun r h => ⟨fun c => (h c).2, sem_eq_zero_of_no_sems (by rfl) r.2⟩) (Cert.Reference2Ideal.Value.run m g)

/-- The input projection of the kernel and that of the reference are the same array. -/
theorem algebraic2 : Cert.algebraic_Kernel2Ideal_Reference2Ideal
    (hKernel2Ideal := Cert.Kernel2Ideal.Gen.facts) (hReference2Ideal := Cert.Reference2Ideal.Gen.facts) := by
  intro m g m' g' hpre hagree
  refine ⟨fun c => Cert.Kernel2Ideal.Inproj.result m c, Cert.Kernel2Ideal.Inproj.run m g, ?_⟩
  refine (θ_run Cert.Reference2Ideal.defs _ _).mono (fun r h c => ⟨(h c).1.trans ?_, (h c).2⟩)
    (Cert.Reference2Ideal.Value.run m' g')
  rw [(hagree c).1, (hagree c).2]

/-- Every execution of the merge's reference ends with its arguments unchanged and every counter at zero. -/
theorem frame_reference3 : Cert.quiescent_Reference3Ideal (hReference3Ideal := Cert.Reference3Ideal.Gen.facts) := fun m g _ =>
  (θ_run Cert.Reference3Ideal.defs _ _).mono (fun r h => ⟨fun c => (h c).2, sem_eq_zero_of_no_sems (by rfl) r.2⟩) (Cert.Reference3Ideal.Value.run m g)

/-- The merge of the kernel and the merge of the reference are the same array. -/
theorem algebraic3 : Cert.algebraic_Kernel3Ideal_Reference3Ideal
    (hKernel3Ideal := Cert.Kernel3Ideal.Gen.facts) (hReference3Ideal := Cert.Reference3Ideal.Gen.facts) := by
  pair_intro
  · run_from Cert.Kernel3Ideal.Gen.run_main m g
  · refine (θ_run Cert.Reference3Ideal.defs _ _).mono (fun r h c => ⟨(h c).1.trans ?_, (h c).2⟩)
      (Cert.Reference3Ideal.Value.run m' g')
    rw [(hagree c).1, (hagree c).2.1, (hagree c).2.2.1, (hagree c).2.2.2.1, (hagree c).2.2.2.2]
    exact (Cert.Kernel3Ideal.Merge.final m c).symm

/-- Every execution of the output projection's reference ends with its arguments unchanged and every counter at zero. -/
theorem frame_reference4 : Cert.quiescent_Reference4Ideal (hReference4Ideal := Cert.Reference4Ideal.Gen.facts) := fun m g _ =>
  (θ_run Cert.Reference4Ideal.defs _ _).mono (fun r h => ⟨fun c => (h c).2, sem_eq_zero_of_no_sems (by rfl) r.2⟩) (Cert.Reference4Ideal.Value.run m g)

/-- The output projection of the kernel and that of the reference are the same array. -/
theorem algebraic4 : Cert.algebraic_Kernel4Ideal_Reference4Ideal
    (hKernel4Ideal := Cert.Kernel4Ideal.Gen.facts) (hReference4Ideal := Cert.Reference4Ideal.Gen.facts) := by
  pair_intro
  · run_from Cert.Kernel4Ideal.Gen.run_main m g
  · refine (θ_run Cert.Reference4Ideal.defs _ _).mono (fun r h c => ⟨(h c).1.trans ?_, (h c).2⟩)
      (Cert.Reference4Ideal.Value.run m' g')
    rw [(hagree c).1, (hagree c).2.1, (hagree c).2.2]
    exact (Cert.Kernel4Ideal.Resid.final m c).symm

/-- Every execution of the memory attention's reference ends with its arguments unchanged and every counter at zero. -/
theorem frame_reference5 : Cert.quiescent_Reference5Ideal (hReference5Ideal := Cert.Reference5Ideal.Gen.facts) := fun m g _ =>
  (θ_run Cert.Reference5Ideal.defs _ _).mono (fun r h => ⟨fun c => (h c).2.2.2, sem_eq_zero_of_no_sems (by rfl) r.2⟩) (Cert.Reference5Ideal.Value.run m g)

/-- With finite arguments the three arrays the memory attention's kernel leaves are the reference's three results. -/
theorem algebraic5 [Cert.Pre_finite_inputs5.Facts] : Cert.algebraic_Kernel5Ideal_Reference5Ideal_pre_finite_inputs5
    (hKernel5Ideal := Cert.Kernel5Ideal.Gen.facts) (hReference5Ideal := Cert.Reference5Ideal.Gen.facts) := by
  pair_intro
  · run_from Cert.Kernel5Ideal.Gen.run_main m g
  · refine (θ_run Cert.Reference5Ideal.defs _ _).mono (fun r h c => ?_) (Cert.Reference5Ideal.Value.run m' g')
    obtain ⟨hX, hG, hW, hKV, hWO, hG', hWR⟩ := Cert.Kernel5Ideal.Mem.finite_of_pre _ _ _ _ _ _ _ (hpre c)
    obtain ⟨a0, a1, a2, a3, a4, a5, a6⟩ := hagree c
    refine ⟨(h c).1.trans ?_, (h c).2.1.trans ?_, (h c).2.2.1.trans ?_, (h c).2.2.2⟩
    · rw [Cert.Reference5Ideal.Mem.res0_eq, a0, a1, a2, a3, a4]
      exact (Cert.Kernel5Ideal.Mem.final7 m c hX hG hW hKV).symm
    · rw [Cert.Reference5Ideal.Mem.res1_eq, a0, a1, a2, a3, a4, a5]
      exact (Cert.Kernel5Ideal.Mem.final8 m c hX hG hW hKV).symm
    · rw [Cert.Reference5Ideal.Mem.res2_eq, a0, a1, a2, a3, a4, a5, a6]
      exact (Cert.Kernel5Ideal.Mem.final9 m c hX hG hW hKV hWO hG' hWR).symm

/-- Every execution of the memory projection's reference ends with its arguments unchanged and every counter at zero. -/
theorem frame_reference6 : Cert.quiescent_Reference6Ideal (hReference6Ideal := Cert.Reference6Ideal.Gen.facts) := fun m g _ =>
  (θ_run Cert.Reference6Ideal.defs _ _).mono (fun r h => ⟨fun c => (h c).2, sem_eq_zero_of_no_sems (by rfl) r.2⟩) (Cert.Reference6Ideal.Value.run m g)

/-- The memory's keys and values of the kernel and those of the reference are the same array. -/
theorem algebraic6 : Cert.algebraic_Kernel6Ideal_Reference6Ideal
    (hKernel6Ideal := Cert.Kernel6Ideal.Gen.facts) (hReference6Ideal := Cert.Reference6Ideal.Gen.facts) := by
  pair_intro
  · run_from Cert.Kernel6Ideal.Gen.run_main m g
  · refine (θ_run Cert.Reference6Ideal.defs _ _).mono (fun r h c => ⟨(h c).1.trans ?_, (h c).2⟩)
      (Cert.Reference6Ideal.Value.run m' g')
    rw [(hagree c).1, (hagree c).2.1, (hagree c).2.2]
    exact (Cert.Kernel6Ideal.MemKv.final m c).symm

/-- Every execution of the first normalisation's reference ends with its arguments unchanged and every counter at zero. -/
theorem frame_reference7 : Cert.quiescent_Reference7Ideal (hReference7Ideal := Cert.Reference7Ideal.Gen.facts) := fun m g _ =>
  (θ_run Cert.Reference7Ideal.defs _ _).mono (fun r h => ⟨fun c => (h c).2, sem_eq_zero_of_no_sems (by rfl) r.2⟩) (Cert.Reference7Ideal.Value.run m g)

/-- The normalised stream of the kernel and that of the reference are the same array. -/
theorem algebraic7 : Cert.algebraic_Kernel7Ideal_Reference7Ideal
    (hKernel7Ideal := Cert.Kernel7Ideal.Gen.facts) (hReference7Ideal := Cert.Reference7Ideal.Gen.facts) := by
  pair_intro
  · run_from Cert.Kernel7Ideal.Gen.run_main m g
  · refine (θ_run Cert.Reference7Ideal.defs _ _).mono (fun r h c => ⟨(h c).1.trans ?_, (h c).2⟩)
      (Cert.Reference7Ideal.Value.run m' g')
    rw [(hagree c).1, (hagree c).2]
    exact (Cert.Kernel7Ideal.MixNorm.final m c).symm

/-- Every execution of the convolution mixer's reference ends with its arguments unchanged and every counter at zero. -/
theorem frame_reference8 : Cert.quiescent_Reference8Ideal (hReference8Ideal := Cert.Reference8Ideal.Gen.facts) := fun m g _ =>
  (θ_run Cert.Reference8Ideal.defs _ _).mono (fun r h => ⟨fun c => (h c).2, sem_eq_zero_of_no_sems (by rfl) r.2⟩) (Cert.Reference8Ideal.Value.run m g)

/-- The convolution branch of the kernel and that of the reference are the same array. -/
theorem algebraic8 : Cert.algebraic_Kernel8Ideal_Reference8Ideal
    (hKernel8Ideal := Cert.Kernel8Ideal.Gen.facts) (hReference8Ideal := Cert.Reference8Ideal.Gen.facts) := by
  pair_intro
  · run_from Cert.Kernel8Ideal.Gen.run_main m g
  · refine (θ_run Cert.Reference8Ideal.defs _ _).mono (fun r h c => ⟨(h c).1.trans ?_, (h c).2⟩)
      (Cert.Reference8Ideal.Value.run m' g')
    rw [(hagree c).1, (hagree c).2]
    exact (Cert.Kernel8Ideal.ConvMix.final m c).symm

/-- Every execution of the softmax's reference ends with its argument unchanged and every counter at zero. -/
theorem frame_reference9 : Cert.quiescent_Reference9Ideal (hReference9Ideal := Cert.Reference9Ideal.Gen.facts) := fun m g _ =>
  (θ_run Cert.Reference9Ideal.defs _ _).mono (fun r h => ⟨fun c => (h c).2, sem_eq_zero_of_no_sems (by rfl) r.2⟩) (Cert.Reference9Ideal.Value.run m g)

/-- The router's affinities of the kernel and the softmax of the reference are the same array. -/
theorem algebraic9 : Cert.algebraic_Kernel9Ideal_Reference9Ideal
    (hKernel9Ideal := Cert.Kernel9Ideal.Gen.facts) (hReference9Ideal := Cert.Reference9Ideal.Gen.facts) := by
  intro m g m' g' hpre hagree
  refine ⟨fun c => Cert.Kernel9Ideal.Route.REF (m ((c.tc : Thread Cert.Kernel9Ideal.nD Cert.Kernel9Ideal.τ).loc Cert.Kernel9Ideal.main_arg0)),
    Cert.Kernel9Ideal.Route.leaves m g, ?_⟩
  refine (θ_run Cert.Reference9Ideal.defs _ _).mono (fun r h c => ⟨(h c).1.trans ?_, (h c).2⟩)
    (Cert.Reference9Ideal.Value.run m' g')
  rw [hagree c]
  rfl

/-- The certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite_inputs.Gen.facts, Cert.Pre_finite_inputs5.Gen.facts, fun m g _ => Cert.Kernel.Gen.frame m g, fun m g _ => Cert.KernelIdeal.Gen.frame m g,
  fun m g _ => Cert.KernelIdeal.Gen.frame m g, fun m g _ => frame_reference m g, fun m g _ => frame_reference m g,
  fun m g _ => Cert.Kernel2.Inproj.frame m g, fun m g _ => Cert.Kernel2Ideal.Inproj.frame m g, frame_reference2,
  fun m g _ => Cert.Kernel3.Gen.frame m g, fun m g _ => Cert.Kernel3Ideal.Gen.frame m g, frame_reference3,
  fun m g _ => Cert.Kernel4.Gen.frame m g, fun m g _ => Cert.Kernel4Ideal.Gen.frame m g, frame_reference4,
  fun m g _ => Cert.Kernel5.Gen.frame m g, fun m g _ => Cert.Kernel5Ideal.Gen.frame m g,
  fun m g _ => Cert.Kernel5Ideal.Gen.frame m g, frame_reference5, fun m g _ => frame_reference5 m g trivial,
  fun m g _ => Cert.Kernel6.Gen.frame m g, fun m g _ => Cert.Kernel6Ideal.Gen.frame m g, frame_reference6,
  fun m g _ => Cert.Kernel7.Gen.frame m g, fun m g _ => Cert.Kernel7Ideal.Gen.frame m g, frame_reference7,
  fun m g _ => Cert.Kernel8.Gen.frame m g, fun m g _ => Cert.Kernel8Ideal.Gen.frame m g, frame_reference8,
  fun m g _ => Cert.Kernel9.Route.frame m g, fun m g _ => Cert.Kernel9Ideal.Route.frame m g, frame_reference9,
  ⟨IdealRules.named_const.statement _ _ _ _ _ rfl, IdealRules.named_const.statement _ _ _ _ _ rfl,
    IdealRules.named_const.statement _ _ _ _ _ rfl⟩,
  (haveI := Cert.Pre_finite_inputs.Gen.facts; algebraic), trivial, algebraic2, trivial, algebraic3, trivial, algebraic4,
  IdealRules.named_const.statement _ _ _ _ _ rfl,
  (haveI := Cert.Pre_finite_inputs5.Gen.facts; algebraic5), trivial, algebraic6, trivial, algebraic7, trivial, algebraic8,
  trivial, algebraic9⟩

end Cert.Proof

end
